-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x2048x2048 : Shape := ⟨4, ![32, 1, 2048, 2048]⟩
abbrev S65536x16x128 : Shape := ⟨3, ![65536, 16, 128]⟩
abbrev S32x4x1024x8x128 : Shape := ⟨5, ![32, 4, 1024, 8, 128]⟩
abbrev S4x256x16x128 : Shape := ⟨4, ![4, 256, 16, 128]⟩
abbrev S4x4x128x8x128 : Shape := ⟨5, ![4, 4, 128, 8, 128]⟩
abbrev S4 : Shape := ⟨1, ![4]⟩
abbrev S1 : Shape := ⟨1, ![1]⟩
abbrev S_ : Shape := ⟨0, ![]⟩
abbrev S1x64x16x128 : Shape := ⟨4, ![1, 64, 16, 128]⟩
abbrev S64x16x128 : Shape := ⟨3, ![64, 16, 128]⟩
abbrev S1x256x16x128 : Shape := ⟨4, ![1, 256, 16, 128]⟩
abbrev S256x16x128 : Shape := ⟨3, ![256, 16, 128]⟩
abbrev S1x4x128x8x128 : Shape := ⟨5, ![1, 4, 128, 8, 128]⟩
abbrev S4x128x8x128 : Shape := ⟨4, ![4, 128, 8, 128]⟩
abbrev S128x8x128 : Shape := ⟨3, ![128, 8, 128]⟩
abbrev S1x128x8x128 : Shape := ⟨4, ![1, 128, 8, 128]⟩
abbrev S128x8x128x1 : Shape := ⟨4, ![128, 8, 128, 1]⟩
abbrev S128x8x64 : Shape := ⟨3, ![128, 8, 64]⟩
abbrev S1x1x128x8x128 : Shape := ⟨5, ![1, 1, 128, 8, 128]⟩
abbrev S1x1x64x8x128 : Shape := ⟨5, ![1, 1, 64, 8, 128]⟩
abbrev S64x8x128 : Shape := ⟨3, ![64, 8, 128]⟩
abbrev S32x4x1024x1024 : Shape := ⟨4, ![32, 4, 1024, 1024]⟩

abbrev nBuf : Space → Nat
  | .hbm => 4
  | .vmem => 2
  | .smem => 0
  | _ => 0

abbrev bufTy : (tb : Table) → Fin (tcTables nBuf tb) → BufTy
  | .hbm, ⟨0, _⟩ => ⟨S32x1x2048x2048, .f32⟩
  | .hbm, ⟨1, _⟩ => ⟨S65536x16x128, .f32⟩
  | .hbm, ⟨2, _⟩ => ⟨S32x4x1024x8x128, .f32⟩
  | .hbm, ⟨3, _⟩ => ⟨S32x4x1024x1024, .f32⟩
  | .local _ .vmem, ⟨0, _⟩ => ⟨S4x256x16x128, .f32⟩
  | .local _ .vmem, ⟨1, _⟩ => ⟨S4x4x128x8x128, .f32⟩
  | _, _ => ⟨S32x1x2048x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [FloatOps F]

abbrev grid0 : Pipeline.Grid := .none

@[reducible] def k0_t1_loop : Scf.Loop 32 :=
  let c0_i32_82 : BitVec 32 := 0#32
  let c256_i32_83 : BitVec 32 := 256#32
  let v60 : BitVec 32 := Scalar.addi c0_i32_82 c256_i32_83
  let c1_i32_84 : BitVec 32 := 1#32
  ⟨c0_i32_82, v60, c1_i32_84⟩
def k0_cond1 (k0_t1 : Fin k0_t1_loop.trips) : BitVec 1 :=
  let c0_i32_82 : BitVec 32 := 0#32
  let c1_i32_84 : BitVec 32 := 1#32
  let arg6 : BitVec 32 := Scf.iv c0_i32_82 c1_i32_84 k0_t1
  let c4_i32_129 : BitVec 32 := 4#32
  let v93 : BitVec 32 := Scalar.addi arg6 c4_i32_129
  let c1_i32_130 : BitVec 32 := 1#32
  let v94 : BitVec 32 := Scalar.subi v93 c1_i32_130
  let c256_i32_131 : BitVec 32 := 256#32
  let v95 : BitVec 1 := Scalar.cmpi .slt v94 c256_i32_131
  let v96 : BitVec 32 := Scalar.extui v95
  let c0_i32_132 : BitVec 32 := 0#32
  let v97 : BitVec 1 := Scalar.cmpi .ne v96 c0_i32_132
  v97

def k0_off1 (k0_t1 : Fin k0_t1_loop.trips) : Fin 1 → Nat :=
  let c0_i32_82 : BitVec 32 := 0#32
  let c1_i32_84 : BitVec 32 := 1#32
  let arg6 : BitVec 32 := Scf.iv c0_i32_82 c1_i32_84 k0_t1
  let c4_i32_126 : BitVec 32 := 4#32
  let v90 : BitVec 32 := Scalar.addi arg6 c4_i32_126
  let c1_i32_127 : BitVec 32 := 1#32
  let v91 : BitVec 32 := Scalar.subi v90 c1_i32_127
  let c4_i32_128 : BitVec 32 := 4#32
  let v92 : BitVec 32 := Scalar.remsi v91 c4_i32_128
  ![v92.toNat]
def k0_off2 (k0_t1 : Fin k0_t1_loop.trips) : Fin 4 → Nat :=
  let c0_i32_82 : BitVec 32 := 0#32
  let c1_i32_84 : BitVec 32 := 1#32
  let arg6 : BitVec 32 := Scf.iv c0_i32_82 c1_i32_84 k0_t1
  let c4_i32_126 : BitVec 32 := 4#32
  let v90 : BitVec 32 := Scalar.addi arg6 c4_i32_126
  let c1_i32_127 : BitVec 32 := 1#32
  let v91 : BitVec 32 := Scalar.subi v90 c1_i32_127
  let c4_i32_128 : BitVec 32 := 4#32
  let v92 : BitVec 32 := Scalar.remsi v91 c4_i32_128
  let c0_i32_256 : BitVec 32 := 0#32
  let c0_i32_257 : BitVec 32 := 0#32
  let c0_i32_258 : BitVec 32 := 0#32
  ![v92.toNat, 0, 0, 0]
def k0_off3 (k0_t1 : Fin k0_t1_loop.trips) (c0_i32_255 : BitVec 32) : Fin 3 → Nat :=
  let c0_i32_82 : BitVec 32 := 0#32
  let c1_i32_84 : BitVec 32 := 1#32
  let arg6 : BitVec 32 := Scf.iv c0_i32_82 c1_i32_84 k0_t1
  let c4_i32_252 : BitVec 32 := 4#32
  let v272 : BitVec 32 := Scalar.addi arg6 c4_i32_252
  let c1_i32_253 : BitVec 32 := 1#32
  let v273 : BitVec 32 := Scalar.subi v272 c1_i32_253
  let c256_i32_254 : BitVec 32 := 256#32
  let v274 : BitVec 32 := Scalar.muli v273 c256_i32_254
  let v275 : BitVec 32 := Scalar.addi v274 c0_i32_255
  let c0_i32_259 : BitVec 32 := 0#32
  let c0_i32_260 : BitVec 32 := 0#32
  ![v275.toNat, 0, 0]
def k0_off4 (k0_t1 : Fin k0_t1_loop.trips) : Fin 4 → Nat :=
  let c0_i32_82 : BitVec 32 := 0#32
  let c1_i32_84 : BitVec 32 := 1#32
  let arg6 : BitVec 32 := Scf.iv c0_i32_82 c1_i32_84 k0_t1
  let c4_i32_126 : BitVec 32 := 4#32
  let v90 : BitVec 32 := Scalar.addi arg6 c4_i32_126
  let c1_i32_127 : BitVec 32 := 1#32
  let v91 : BitVec 32 := Scalar.subi v90 c1_i32_127
  let c4_i32_128 : BitVec 32 := 4#32
  let v92 : BitVec 32 := Scalar.remsi v91 c4_i32_128
  let c64_i32_262 : BitVec 32 := 64#32
  let c0_i32_263 : BitVec 32 := 0#32
  let c0_i32_264 : BitVec 32 := 0#32
  ![v92.toNat, 64, 0, 0]
def k0_off5 (k0_t1 : Fin k0_t1_loop.trips) : Fin 4 → Nat :=
  let c0_i32_82 : BitVec 32 := 0#32
  let c1_i32_84 : BitVec 32 := 1#32
  let arg6 : BitVec 32 := Scf.iv c0_i32_82 c1_i32_84 k0_t1
  let c4_i32_126 : BitVec 32 := 4#32
  let v90 : BitVec 32 := Scalar.addi arg6 c4_i32_126
  let c1_i32_127 : BitVec 32 := 1#32
  let v91 : BitVec 32 := Scalar.subi v90 c1_i32_127
  let c4_i32_128 : BitVec 32 := 4#32
  let v92 : BitVec 32 := Scalar.remsi v91 c4_i32_128
  let c128_i32_268 : BitVec 32 := 128#32
  let c0_i32_269 : BitVec 32 := 0#32
  let c0_i32_270 : BitVec 32 := 0#32
  ![v92.toNat, 128, 0, 0]
def k0_off6 (k0_t1 : Fin k0_t1_loop.trips) : Fin 4 → Nat :=
  let c0_i32_82 : BitVec 32 := 0#32
  let c1_i32_84 : BitVec 32 := 1#32
  let arg6 : BitVec 32 := Scf.iv c0_i32_82 c1_i32_84 k0_t1
  let c4_i32_126 : BitVec 32 := 4#32
  let v90 : BitVec 32 := Scalar.addi arg6 c4_i32_126
  let c1_i32_127 : BitVec 32 := 1#32
  let v91 : BitVec 32 := Scalar.subi v90 c1_i32_127
  let c4_i32_128 : BitVec 32 := 4#32
  let v92 : BitVec 32 := Scalar.remsi v91 c4_i32_128
  let c192_i32_274 : BitVec 32 := 192#32
  let c0_i32_275 : BitVec 32 := 0#32
  let c0_i32_276 : BitVec 32 := 0#32
  ![v92.toNat, 192, 0, 0]
def k0_off7 (k0_t1 : Fin k0_t1_loop.trips) : Fin 1 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  ![v89.toNat]
def k0_off8 (k0_t1 : Fin k0_t1_loop.trips) : Fin 4 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  let c0_i32_133 : BitVec 32 := 0#32
  let c0_i32_134 : BitVec 32 := 0#32
  let c0_i32_135 : BitVec 32 := 0#32
  ![v89.toNat, 0, 0, 0]
def k0_cond2 (k0_t1 : Fin k0_t1_loop.trips) : BitVec 1 :=
  let c0_i32_82 : BitVec 32 := 0#32
  let c1_i32_84 : BitVec 32 := 1#32
  let arg6 : BitVec 32 := Scf.iv c0_i32_82 c1_i32_84 k0_t1
  let c4_i32_139 : BitVec 32 := 4#32
  let v103 : BitVec 1 := Scalar.cmpi .sge arg6 c4_i32_139
  let v104 : BitVec 32 := Scalar.extui v103
  let c0_i32_140 : BitVec 32 := 0#32
  let v105 : BitVec 1 := Scalar.cmpi .ne v104 c0_i32_140
  v105

def k0_off9 (k0_t1 : Fin k0_t1_loop.trips) : Fin 1 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  ![v89.toNat]
def k0_off10 (k0_t1 : Fin k0_t1_loop.trips) : Fin 5 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  let c0_i32_257 : BitVec 32 := 0#32
  let c0_i32_258 : BitVec 32 := 0#32
  let c0_i32_259 : BitVec 32 := 0#32
  let c0_i32_260 : BitVec 32 := 0#32
  ![v89.toNat, 0, 0, 0, 0]
def k0_off11 (k0_t1 : Fin k0_t1_loop.trips) : Fin 4 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  let v116 : Index := Scalar.indexCast v89
  let c0 : Index := 0#32
  let c0_144 : Index := 0#32
  let c0_145 : Index := 0#32
  ![v116.toNat, 0, 0, 0]
def k0_off12 (k0_t1 : Fin k0_t1_loop.trips) : Fin 4 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  let v119 : Index := Scalar.indexCast v89
  let c0_146 : Index := 0#32
  let c1 : Index := 1#32
  let c0_147 : Index := 0#32
  ![v119.toNat, 0, 1, 0]
def k0_off13 (k0_t1 : Fin k0_t1_loop.trips) : Fin 5 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  let v141 : Index := Scalar.indexCast v89
  let c0_152 : Index := 0#32
  let c0_153 : Index := 0#32
  let c0_154 : Index := 0#32
  let c0_155 : Index := 0#32
  ![v141.toNat, 0, 0, 0, 0]
def k0_off14 (k0_t1 : Fin k0_t1_loop.trips) : Fin 5 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  let v148 : Index := Scalar.indexCast v89
  let c1_156 : Index := 1#32
  let c0_157 : Index := 0#32
  let c0_158 : Index := 0#32
  let c0_159 : Index := 0#32
  ![v148.toNat, 1, 0, 0, 0]
def k0_off15 (k0_t1 : Fin k0_t1_loop.trips) : Fin 4 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  let v152 : Index := Scalar.indexCast v89
  let c1_160 : Index := 1#32
  let c0_161 : Index := 0#32
  let c0_162 : Index := 0#32
  ![v152.toNat, 1, 0, 0]
def k0_off16 (k0_t1 : Fin k0_t1_loop.trips) : Fin 4 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  let v155 : Index := Scalar.indexCast v89
  let c1_163 : Index := 1#32
  let c1_164 : Index := 1#32
  let c0_165 : Index := 0#32
  ![v155.toNat, 1, 1, 0]
def k0_off17 (k0_t1 : Fin k0_t1_loop.trips) : Fin 5 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  let v177 : Index := Scalar.indexCast v89
  let c2 : Index := 2#32
  let c0_170 : Index := 0#32
  let c0_171 : Index := 0#32
  let c0_172 : Index := 0#32
  ![v177.toNat, 2, 0, 0, 0]
def k0_off18 (k0_t1 : Fin k0_t1_loop.trips) : Fin 5 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  let v184 : Index := Scalar.indexCast v89
  let c3 : Index := 3#32
  let c0_173 : Index := 0#32
  let c0_174 : Index := 0#32
  let c0_175 : Index := 0#32
  ![v184.toNat, 3, 0, 0, 0]
def k0_off19 (k0_t1 : Fin k0_t1_loop.trips) (c0_i32_189 : BitVec 32) : Fin 5 → Nat :=
  let c0_i32_82 : BitVec 32 := 0#32
  let c1_i32_84 : BitVec 32 := 1#32
  let arg6 : BitVec 32 := Scf.iv c0_i32_82 c1_i32_84 k0_t1
  let c0_i32_176 : BitVec 32 := 0#32
  let v189 : BitVec 1 := Scalar.cmpi .sgt arg6 c0_i32_176
  let v190 : BitVec 32 := Scalar.extui v189
  let c0_i32_177 : BitVec 32 := 0#32
  let v191 : BitVec 1 := Scalar.cmpi .slt arg6 c0_i32_177
  let v192 : BitVec 32 := Scalar.extui v191
  let v193 : BitVec 32 := Scalar.subi v190 v192
  let c8_i32 : BitVec 32 := 8#32
  let c0_i32_178 : BitVec 32 := 0#32
  let v194 : BitVec 1 := Scalar.cmpi .sgt c8_i32 c0_i32_178
  let v195 : BitVec 32 := Scalar.extui v194
  let c0_i32_179 : BitVec 32 := 0#32
  let v196 : BitVec 1 := Scalar.cmpi .slt c8_i32 c0_i32_179
  let v197 : BitVec 32 := Scalar.extui v196
  let v198 : BitVec 32 := Scalar.subi v195 v197
  let v199 : BitVec 1 := Scalar.cmpi .ne v193 v198
  let v200 : BitVec 32 := Scalar.remsi arg6 c8_i32
  let c0_i32_180 : BitVec 32 := 0#32
  let v201 : BitVec 1 := Scalar.cmpi .ne v200 c0_i32_180
  let v202 : BitVec 1 := Scalar.andi v199 v201
  let v188 : BitVec 32 := Scalar.divsi arg6 c8_i32
  let c1_i32_181 : BitVec 32 := 1#32
  let v203 : BitVec 32 := Scalar.subi v188 c1_i32_181
  let v204 : BitVec 32 := Scalar.select v202 v203 v188
  let c0_i32_191 : BitVec 32 := 0#32
  let c8_i32_182 : BitVec 32 := 8#32
  let c0_i32_183 : BitVec 32 := 0#32
  let v205 : BitVec 1 := Scalar.cmpi .eq c8_i32_182 c0_i32_183
  let c1_i32_184 : BitVec 32 := 1#32
  let v206 : BitVec 32 := Scalar.select v205 c1_i32_184 c8_i32_182
  let v207 : BitVec 32 := Scalar.remsi arg6 v206
  let c0_i32_186 : BitVec 32 := 0#32
  let v209 : BitVec 1 := Scalar.cmpi .slt v207 c0_i32_186
  let c0_i32_187 : BitVec 32 := 0#32
  let v210 : BitVec 1 := Scalar.cmpi .slt v206 c0_i32_187
  let v211 : BitVec 1 := Scalar.xori v209 v210
  let c0_i32_185 : BitVec 32 := 0#32
  let v208 : BitVec 1 := Scalar.cmpi .ne v207 c0_i32_185
  let v212 : BitVec 1 := Scalar.andi v211 v208
  let v213 : BitVec 32 := Scalar.addi v207 v206
  let v214 : BitVec 32 := Scalar.select v212 v213 v207
  let c128_i32_188 : BitVec 32 := 128#32
  let v215 : BitVec 32 := Scalar.muli v214 c128_i32_188
  let v216 : BitVec 32 := Scalar.addi v215 c0_i32_189
  let c0_i32_192 : BitVec 32 := 0#32
  let c0_i32_193 : BitVec 32 := 0#32
  ![v204.toNat, 0, v216.toNat, 0, 0]
def k0_off20 (k0_t1 : Fin k0_t1_loop.trips) : Fin 5 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  let c0_i32_190 : BitVec 32 := 0#32
  let c0_i32_194 : BitVec 32 := 0#32
  let c0_i32_195 : BitVec 32 := 0#32
  let c0_i32_196 : BitVec 32 := 0#32
  ![v89.toNat, 0, 0, 0, 0]
def k0_off21 (k0_t1 : Fin k0_t1_loop.trips) : Fin 5 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  let c0_i32_198 : BitVec 32 := 0#32
  let c64_i32_202 : BitVec 32 := 64#32
  let c0_i32_203 : BitVec 32 := 0#32
  let c0_i32_204 : BitVec 32 := 0#32
  ![v89.toNat, 0, 64, 0, 0]
def k0_off22 (k0_t1 : Fin k0_t1_loop.trips) (c0_i32_205 : BitVec 32) : Fin 5 → Nat :=
  let c0_i32_82 : BitVec 32 := 0#32
  let c1_i32_84 : BitVec 32 := 1#32
  let arg6 : BitVec 32 := Scf.iv c0_i32_82 c1_i32_84 k0_t1
  let c0_i32_176 : BitVec 32 := 0#32
  let v189 : BitVec 1 := Scalar.cmpi .sgt arg6 c0_i32_176
  let v190 : BitVec 32 := Scalar.extui v189
  let c0_i32_177 : BitVec 32 := 0#32
  let v191 : BitVec 1 := Scalar.cmpi .slt arg6 c0_i32_177
  let v192 : BitVec 32 := Scalar.extui v191
  let v193 : BitVec 32 := Scalar.subi v190 v192
  let c8_i32 : BitVec 32 := 8#32
  let c0_i32_178 : BitVec 32 := 0#32
  let v194 : BitVec 1 := Scalar.cmpi .sgt c8_i32 c0_i32_178
  let v195 : BitVec 32 := Scalar.extui v194
  let c0_i32_179 : BitVec 32 := 0#32
  let v196 : BitVec 1 := Scalar.cmpi .slt c8_i32 c0_i32_179
  let v197 : BitVec 32 := Scalar.extui v196
  let v198 : BitVec 32 := Scalar.subi v195 v197
  let v199 : BitVec 1 := Scalar.cmpi .ne v193 v198
  let v200 : BitVec 32 := Scalar.remsi arg6 c8_i32
  let c0_i32_180 : BitVec 32 := 0#32
  let v201 : BitVec 1 := Scalar.cmpi .ne v200 c0_i32_180
  let v202 : BitVec 1 := Scalar.andi v199 v201
  let v188 : BitVec 32 := Scalar.divsi arg6 c8_i32
  let c1_i32_181 : BitVec 32 := 1#32
  let v203 : BitVec 32 := Scalar.subi v188 c1_i32_181
  let v204 : BitVec 32 := Scalar.select v202 v203 v188
  let c1_i32_207 : BitVec 32 := 1#32
  let c8_i32_182 : BitVec 32 := 8#32
  let c0_i32_183 : BitVec 32 := 0#32
  let v205 : BitVec 1 := Scalar.cmpi .eq c8_i32_182 c0_i32_183
  let c1_i32_184 : BitVec 32 := 1#32
  let v206 : BitVec 32 := Scalar.select v205 c1_i32_184 c8_i32_182
  let v207 : BitVec 32 := Scalar.remsi arg6 v206
  let c0_i32_186 : BitVec 32 := 0#32
  let v209 : BitVec 1 := Scalar.cmpi .slt v207 c0_i32_186
  let c0_i32_187 : BitVec 32 := 0#32
  let v210 : BitVec 1 := Scalar.cmpi .slt v206 c0_i32_187
  let v211 : BitVec 1 := Scalar.xori v209 v210
  let c0_i32_185 : BitVec 32 := 0#32
  let v208 : BitVec 1 := Scalar.cmpi .ne v207 c0_i32_185
  let v212 : BitVec 1 := Scalar.andi v211 v208
  let v213 : BitVec 32 := Scalar.addi v207 v206
  let v214 : BitVec 32 := Scalar.select v212 v213 v207
  let c128_i32_188 : BitVec 32 := 128#32
  let v215 : BitVec 32 := Scalar.muli v214 c128_i32_188
  let v230 : BitVec 32 := Scalar.addi v215 c0_i32_205
  let c0_i32_208 : BitVec 32 := 0#32
  let c0_i32_209 : BitVec 32 := 0#32
  ![v204.toNat, 1, v230.toNat, 0, 0]
def k0_off23 (k0_t1 : Fin k0_t1_loop.trips) : Fin 5 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  let c1_i32_206 : BitVec 32 := 1#32
  let c0_i32_210 : BitVec 32 := 0#32
  let c0_i32_211 : BitVec 32 := 0#32
  let c0_i32_212 : BitVec 32 := 0#32
  ![v89.toNat, 1, 0, 0, 0]
def k0_off24 (k0_t1 : Fin k0_t1_loop.trips) : Fin 5 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  let c1_i32_214 : BitVec 32 := 1#32
  let c64_i32_218 : BitVec 32 := 64#32
  let c0_i32_219 : BitVec 32 := 0#32
  let c0_i32_220 : BitVec 32 := 0#32
  ![v89.toNat, 1, 64, 0, 0]
def k0_off25 (k0_t1 : Fin k0_t1_loop.trips) (c0_i32_221 : BitVec 32) : Fin 5 → Nat :=
  let c0_i32_82 : BitVec 32 := 0#32
  let c1_i32_84 : BitVec 32 := 1#32
  let arg6 : BitVec 32 := Scf.iv c0_i32_82 c1_i32_84 k0_t1
  let c0_i32_176 : BitVec 32 := 0#32
  let v189 : BitVec 1 := Scalar.cmpi .sgt arg6 c0_i32_176
  let v190 : BitVec 32 := Scalar.extui v189
  let c0_i32_177 : BitVec 32 := 0#32
  let v191 : BitVec 1 := Scalar.cmpi .slt arg6 c0_i32_177
  let v192 : BitVec 32 := Scalar.extui v191
  let v193 : BitVec 32 := Scalar.subi v190 v192
  let c8_i32 : BitVec 32 := 8#32
  let c0_i32_178 : BitVec 32 := 0#32
  let v194 : BitVec 1 := Scalar.cmpi .sgt c8_i32 c0_i32_178
  let v195 : BitVec 32 := Scalar.extui v194
  let c0_i32_179 : BitVec 32 := 0#32
  let v196 : BitVec 1 := Scalar.cmpi .slt c8_i32 c0_i32_179
  let v197 : BitVec 32 := Scalar.extui v196
  let v198 : BitVec 32 := Scalar.subi v195 v197
  let v199 : BitVec 1 := Scalar.cmpi .ne v193 v198
  let v200 : BitVec 32 := Scalar.remsi arg6 c8_i32
  let c0_i32_180 : BitVec 32 := 0#32
  let v201 : BitVec 1 := Scalar.cmpi .ne v200 c0_i32_180
  let v202 : BitVec 1 := Scalar.andi v199 v201
  let v188 : BitVec 32 := Scalar.divsi arg6 c8_i32
  let c1_i32_181 : BitVec 32 := 1#32
  let v203 : BitVec 32 := Scalar.subi v188 c1_i32_181
  let v204 : BitVec 32 := Scalar.select v202 v203 v188
  let c2_i32_223 : BitVec 32 := 2#32
  let c8_i32_182 : BitVec 32 := 8#32
  let c0_i32_183 : BitVec 32 := 0#32
  let v205 : BitVec 1 := Scalar.cmpi .eq c8_i32_182 c0_i32_183
  let c1_i32_184 : BitVec 32 := 1#32
  let v206 : BitVec 32 := Scalar.select v205 c1_i32_184 c8_i32_182
  let v207 : BitVec 32 := Scalar.remsi arg6 v206
  let c0_i32_186 : BitVec 32 := 0#32
  let v209 : BitVec 1 := Scalar.cmpi .slt v207 c0_i32_186
  let c0_i32_187 : BitVec 32 := 0#32
  let v210 : BitVec 1 := Scalar.cmpi .slt v206 c0_i32_187
  let v211 : BitVec 1 := Scalar.xori v209 v210
  let c0_i32_185 : BitVec 32 := 0#32
  let v208 : BitVec 1 := Scalar.cmpi .ne v207 c0_i32_185
  let v212 : BitVec 1 := Scalar.andi v211 v208
  let v213 : BitVec 32 := Scalar.addi v207 v206
  let v214 : BitVec 32 := Scalar.select v212 v213 v207
  let c128_i32_188 : BitVec 32 := 128#32
  let v215 : BitVec 32 := Scalar.muli v214 c128_i32_188
  let v244 : BitVec 32 := Scalar.addi v215 c0_i32_221
  let c0_i32_224 : BitVec 32 := 0#32
  let c0_i32_225 : BitVec 32 := 0#32
  ![v204.toNat, 2, v244.toNat, 0, 0]
def k0_off26 (k0_t1 : Fin k0_t1_loop.trips) : Fin 5 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  let c2_i32_222 : BitVec 32 := 2#32
  let c0_i32_226 : BitVec 32 := 0#32
  let c0_i32_227 : BitVec 32 := 0#32
  let c0_i32_228 : BitVec 32 := 0#32
  ![v89.toNat, 2, 0, 0, 0]
def k0_off27 (k0_t1 : Fin k0_t1_loop.trips) : Fin 5 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  let c2_i32_230 : BitVec 32 := 2#32
  let c64_i32_234 : BitVec 32 := 64#32
  let c0_i32_235 : BitVec 32 := 0#32
  let c0_i32_236 : BitVec 32 := 0#32
  ![v89.toNat, 2, 64, 0, 0]
def k0_off28 (k0_t1 : Fin k0_t1_loop.trips) (c0_i32_237 : BitVec 32) : Fin 5 → Nat :=
  let c0_i32_82 : BitVec 32 := 0#32
  let c1_i32_84 : BitVec 32 := 1#32
  let arg6 : BitVec 32 := Scf.iv c0_i32_82 c1_i32_84 k0_t1
  let c0_i32_176 : BitVec 32 := 0#32
  let v189 : BitVec 1 := Scalar.cmpi .sgt arg6 c0_i32_176
  let v190 : BitVec 32 := Scalar.extui v189
  let c0_i32_177 : BitVec 32 := 0#32
  let v191 : BitVec 1 := Scalar.cmpi .slt arg6 c0_i32_177
  let v192 : BitVec 32 := Scalar.extui v191
  let v193 : BitVec 32 := Scalar.subi v190 v192
  let c8_i32 : BitVec 32 := 8#32
  let c0_i32_178 : BitVec 32 := 0#32
  let v194 : BitVec 1 := Scalar.cmpi .sgt c8_i32 c0_i32_178
  let v195 : BitVec 32 := Scalar.extui v194
  let c0_i32_179 : BitVec 32 := 0#32
  let v196 : BitVec 1 := Scalar.cmpi .slt c8_i32 c0_i32_179
  let v197 : BitVec 32 := Scalar.extui v196
  let v198 : BitVec 32 := Scalar.subi v195 v197
  let v199 : BitVec 1 := Scalar.cmpi .ne v193 v198
  let v200 : BitVec 32 := Scalar.remsi arg6 c8_i32
  let c0_i32_180 : BitVec 32 := 0#32
  let v201 : BitVec 1 := Scalar.cmpi .ne v200 c0_i32_180
  let v202 : BitVec 1 := Scalar.andi v199 v201
  let v188 : BitVec 32 := Scalar.divsi arg6 c8_i32
  let c1_i32_181 : BitVec 32 := 1#32
  let v203 : BitVec 32 := Scalar.subi v188 c1_i32_181
  let v204 : BitVec 32 := Scalar.select v202 v203 v188
  let c3_i32_238 : BitVec 32 := 3#32
  let c8_i32_182 : BitVec 32 := 8#32
  let c0_i32_183 : BitVec 32 := 0#32
  let v205 : BitVec 1 := Scalar.cmpi .eq c8_i32_182 c0_i32_183
  let c1_i32_184 : BitVec 32 := 1#32
  let v206 : BitVec 32 := Scalar.select v205 c1_i32_184 c8_i32_182
  let v207 : BitVec 32 := Scalar.remsi arg6 v206
  let c0_i32_186 : BitVec 32 := 0#32
  let v209 : BitVec 1 := Scalar.cmpi .slt v207 c0_i32_186
  let c0_i32_187 : BitVec 32 := 0#32
  let v210 : BitVec 1 := Scalar.cmpi .slt v206 c0_i32_187
  let v211 : BitVec 1 := Scalar.xori v209 v210
  let c0_i32_185 : BitVec 32 := 0#32
  let v208 : BitVec 1 := Scalar.cmpi .ne v207 c0_i32_185
  let v212 : BitVec 1 := Scalar.andi v211 v208
  let v213 : BitVec 32 := Scalar.addi v207 v206
  let v214 : BitVec 32 := Scalar.select v212 v213 v207
  let c128_i32_188 : BitVec 32 := 128#32
  let v215 : BitVec 32 := Scalar.muli v214 c128_i32_188
  let v258 : BitVec 32 := Scalar.addi v215 c0_i32_237
  let c0_i32_239 : BitVec 32 := 0#32
  let c0_i32_240 : BitVec 32 := 0#32
  ![v204.toNat, 3, v258.toNat, 0, 0]
def k0_off29 (k0_t1 : Fin k0_t1_loop.trips) : Fin 5 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  let c3_i32 : BitVec 32 := 3#32
  let c0_i32_241 : BitVec 32 := 0#32
  let c0_i32_242 : BitVec 32 := 0#32
  let c0_i32_243 : BitVec 32 := 0#32
  ![v89.toNat, 3, 0, 0, 0]
def k0_off30 (k0_t1 : Fin k0_t1_loop.trips) : Fin 5 → Nat :=
  let c0_i32_82 : BitVec 32 := 0#32
  let c1_i32_84 : BitVec 32 := 1#32
  let arg6 : BitVec 32 := Scf.iv c0_i32_82 c1_i32_84 k0_t1
  let c4_i32_125 : BitVec 32 := 4#32
  let v89 : BitVec 32 := Scalar.remsi arg6 c4_i32_125
  let c3_i32_245 : BitVec 32 := 3#32
  let c64_i32_249 : BitVec 32 := 64#32
  let c0_i32_250 : BitVec 32 := 0#32
  let c0_i32_251 : BitVec 32 := 0#32
  ![v89.toNat, 3, 64, 0, 0]
def k0_off31 (c252_i32 : BitVec 32) : Fin 1 → Nat :=
  let c4_i32 : BitVec 32 := 4#32
  let v61 : BitVec 32 := Scalar.remsi c252_i32 c4_i32
  ![v61.toNat]
def k0_off32 (c252_i32 : BitVec 32) : Fin 5 → Nat :=
  let c4_i32 : BitVec 32 := 4#32
  let v61 : BitVec 32 := Scalar.remsi c252_i32 c4_i32
  let c0_i32_91 : BitVec 32 := 0#32
  let c0_i32_92 : BitVec 32 := 0#32
  let c0_i32_93 : BitVec 32 := 0#32
  let c0_i32_94 : BitVec 32 := 0#32
  ![v61.toNat, 0, 0, 0, 0]
-- ==== ReferenceIdeal.lean ====
abbrev S32x1x2048x2048 : Shape := ⟨4, ![32, 1, 2048, 2048]⟩
abbrev S32x1x1024x1024 : Shape := ⟨4, ![32, 1, 1024, 1024]⟩
abbrev S32x4x1024x1024 : Shape := ⟨4, ![32, 4, 1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32x1x2048x2048, .f32⟩
  | .hbm, ⟨1, _⟩ => ⟨S32x1x1024x1024, .f32⟩
  | .hbm, ⟨2, _⟩ => ⟨S32x1x1024x1024, .f32⟩
  | .hbm, ⟨3, _⟩ => ⟨S32x1x1024x1024, .f32⟩
  | .hbm, ⟨4, _⟩ => ⟨S32x1x1024x1024, .f32⟩
  | .hbm, ⟨5, _⟩ => ⟨S32x4x1024x1024, .f32⟩
  | _, _ => ⟨S32x1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Proof.Blocks.lean ====
/-
  What the arrays of the pixel-unshuffle kernel hold, and the parts they are moved in.

  The kernel walks 256 steps. Step `t` brings 256 rows of the input (four transfers of 64 rows) into slot `t % 4` of the
  input scratch, rearranges them into slot `t % 4` of the output scratch, and sends that slot out in eight transfers.
  This file names the contents at each of those places as functions of the input array, and the sets of indices a step,
  and a transfer of a step, is about.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

noncomputable section

namespace Cert.Unshuffle

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Contents -/

/-- Row `r`, group `g`, lane `l` of the input seen as 65536 rows of 16 groups of 128 lanes; the row is taken modulo the
    number of rows, so that it may be given as any natural number. -/
def xAt (r : ℕ) (g : Fin 16) (l : Fin 128) : S65536x16x128.Idx
  | ⟨0, _⟩ => (⟨r % 65536, Nat.mod_lt _ (by decide)⟩ : Fin 65536)
  | ⟨1, _⟩ => g
  | ⟨2, _⟩ => l

/-- The source of an output element: output row `h` of image `b`, channel `c`, group `k`, lane `l` (column `128 k + l`)
    comes from input row `2 h + c / 2` of the image and input column `2 (128 k + l) + c % 2`. -/
def srcAt (b h c k l : ℕ) : S65536x16x128.Idx :=
  xAt (2048 * b + 2 * h + c / 2) ⟨(2 * (128 * k + l) + c % 2) / 128 % 16, Nat.mod_lt _ (by decide)⟩
    ⟨(2 * (128 * k + l) + c % 2) % 128, Nat.mod_lt _ (by decide)⟩

section Contents

variable {α : Type}

/-- What any slot of the input scratch holds once step `t`'s transfers into it have landed. -/
def inBuf (x : S65536x16x128.Idx → α) (t : ℕ) : S4x256x16x128.Idx → α :=
  fun i => x (xAt (256 * t + (i 1).val) (i 2) (i 3))

/-- What any slot of the output scratch holds once step `t` has rearranged its rows. -/
def outBuf (x : S65536x16x128.Idx → α) (t : ℕ) : S4x4x128x8x128.Idx → α :=
  fun i => x (srcAt (t / 8) (t % 8 * 128 + (i 2).val) (i 1).val (i 3).val (i 4).val)

/-- The output array at the end. -/
def outArr (x : S65536x16x128.Idx → α) : S32x4x1024x8x128.Idx → α :=
  fun i => x (srcAt (i 0).val (i 2).val (i 1).val (i 3).val (i 4).val)

end Contents

/-! ## Parts -/

/-- The step an input row belongs to. -/
def xStep (i : S65536x16x128.Idx) : ℕ := (i 0).val / 256
/-- Which of its step's four transfers an input row belongs to. -/
def xPart (i : S65536x16x128.Idx) : Fin 4 := ⟨(i 0).val / 64 % 4, Nat.mod_lt _ (by decide)⟩
/-- The slot of an index of the input scratch, -/
def bSlot (i : S4x256x16x128.Idx) : ℕ := (i 0).val
/-- and the transfer that fills it. -/
def bPart (i : S4x256x16x128.Idx) : Fin 4 := ⟨(i 1).val / 64 % 4, Nat.mod_lt _ (by decide)⟩
/-- The slot of an index of the output scratch, -/
def oSlot (i : S4x4x128x8x128.Idx) : ℕ := (i 0).val
/-- and which of the eight transfers out of the slot reads it: two per channel. -/
def oPart (i : S4x4x128x8x128.Idx) : Fin 8 :=
  ⟨((i 1).val * 2 + (i 2).val / 64) % 8, Nat.mod_lt _ (by decide)⟩
/-- The step that writes an index of the output array, -/
def yStep (i : S32x4x1024x8x128.Idx) : ℕ := (i 0).val * 8 + (i 2).val / 128
/-- and which of the step's eight transfers writes it. -/
def yPart (i : S32x4x1024x8x128.Idx) : Fin 8 :=
  ⟨((i 1).val * 2 + (i 2).val / 64 % 2) % 8, Nat.mod_lt _ (by decide)⟩

/-- The input rows of step `t`. -/
def XS (t : ℕ) : Finset S65536x16x128.Idx := Finset.univ.filter fun i => xStep i = t
/-- The input rows of the steps from `t` on. -/
def XFrom (t : ℕ) : Finset S65536x16x128.Idx := Finset.univ.filter fun i => t ≤ xStep i
/-- The input rows of the steps before `t`. -/
def XBelow (t : ℕ) : Finset S65536x16x128.Idx := Finset.univ.filter fun i => xStep i < t
/-- Slot `s` of the input scratch. -/
def BS (s : ℕ) : Finset S4x256x16x128.Idx := Finset.univ.filter fun i => bSlot i = s
/-- Slot `s` of the output scratch. -/
def OS (s : ℕ) : Finset S4x4x128x8x128.Idx := Finset.univ.filter fun i => oSlot i = s
/-- The output indices of step `t`. -/
def YS (t : ℕ) : Finset S32x4x1024x8x128.Idx := Finset.univ.filter fun i => yStep i = t
/-- The output indices of the steps from `t` on. -/
def YFrom (t : ℕ) : Finset S32x4x1024x8x128.Idx := Finset.univ.filter fun i => t ≤ yStep i
/-- The output indices of the steps before `t`. -/
def YBelow (t : ℕ) : Finset S32x4x1024x8x128.Idx := Finset.univ.filter fun i => yStep i < t

/-- Transfer `q`'s input rows of step `t`. -/
def XP (t : ℕ) (q : Fin 4) : Finset S65536x16x128.Idx := (XS t).filter fun i => xPart i = q
/-- Transfer `q`'s rows of slot `s` of the input scratch. -/
def BP (s : ℕ) (q : Fin 4) : Finset S4x256x16x128.Idx := (BS s).filter fun i => bPart i = q
/-- Transfer `p`'s part of slot `s` of the output scratch. -/
def OP (s : ℕ) (p : Fin 8) : Finset S4x4x128x8x128.Idx := (OS s).filter fun i => oPart i = p
/-- Transfer `p`'s output indices of step `t`. -/
def YP (t : ℕ) (p : Fin 8) : Finset S32x4x1024x8x128.Idx := (YS t).filter fun i => yPart i = p

/-! ## Membership -/

theorem mem_XS {t : ℕ} {i} : i ∈ XS t ↔ xStep i = t := by simp [XS]
theorem mem_XFrom {t : ℕ} {i} : i ∈ XFrom t ↔ t ≤ xStep i := by simp [XFrom]
theorem mem_XBelow {t : ℕ} {i} : i ∈ XBelow t ↔ xStep i < t := by simp [XBelow]
theorem mem_BS {s : ℕ} {i} : i ∈ BS s ↔ bSlot i = s := by simp [BS]
theorem mem_OS {s : ℕ} {i} : i ∈ OS s ↔ oSlot i = s := by simp [OS]
theorem mem_YS {t : ℕ} {i} : i ∈ YS t ↔ yStep i = t := by simp [YS]
theorem mem_YFrom {t : ℕ} {i} : i ∈ YFrom t ↔ t ≤ yStep i := by simp [YFrom]
theorem mem_YBelow {t : ℕ} {i} : i ∈ YBelow t ↔ yStep i < t := by simp [YBelow]
theorem mem_XP {t : ℕ} {q : Fin 4} {i} : i ∈ XP t q ↔ xStep i = t ∧ xPart i = q := by simp [XP, XS]
theorem mem_BP {s : ℕ} {q : Fin 4} {i} : i ∈ BP s q ↔ bSlot i = s ∧ bPart i = q := by simp [BP, BS]
theorem mem_OP {s : ℕ} {p : Fin 8} {i} : i ∈ OP s p ↔ oSlot i = s ∧ oPart i = p := by simp [OP, OS]
theorem mem_YP {t : ℕ} {p : Fin 8} {i} : i ∈ YP t p ↔ yStep i = t ∧ yPart i = p := by simp [YP, YS]

/-! ## The rectangles the program names are those parts -/

theorem set_x (t : ℕ) (q : Fin 4) (off : Fin 3 → ℕ) (h) (e : off = ![256 * t + 64 * q.val, 0, 0]) :
    (Rect.unit (s := S65536x16x128) off S64x16x128.size h).set = XP t q := by
  subst e
  ext i
  rw [Rect.mem_set_unit]
  simp only [mem_XP, xStep, xPart, Fin.ext_iff]
  constructor
  · intro hi
    have h0 := hi 0
    simp at h0
    omega
  · intro hi a
    have h1 := (i 1).isLt; have h2 := (i 2).isLt
    fin_cases a <;> simp at * <;> omega

theorem set_b (s : ℕ) (q : Fin 4) (off : Fin 4 → ℕ) (h) (e : off = ![s, 64 * q.val, 0, 0]) :
    (Rect.unit (s := S4x256x16x128) off S1x64x16x128.size h).set = BP s q := by
  subst e
  ext i
  rw [Rect.mem_set_unit]
  simp only [mem_BP, bSlot, bPart, Fin.ext_iff]
  have hb := (i 1).isLt
  constructor
  · intro hi
    have h0 := hi 0; have h1 := hi 1
    simp at h0 h1 hb
    omega
  · intro hi a
    have h2 := (i 2).isLt; have h3 := (i 3).isLt
    fin_cases a <;> simp at * <;> omega

theorem set_o (s : ℕ) (p : Fin 8) (off : Fin 5 → ℕ) (h) (e : off = ![s, p.val / 2, 64 * (p.val % 2), 0, 0]) :
    (Rect.unit (s := S4x4x128x8x128) off S1x1x64x8x128.size h).set = OP s p := by
  subst e
  ext i
  rw [Rect.mem_set_unit]
  simp only [mem_OP, oSlot, oPart, Fin.ext_iff]
  have hc := (i 1).isLt; have hb := (i 2).isLt
  constructor
  · intro hi
    have h0 := hi 0; have h1 := hi 1; have h2 := hi 2
    simp at h0 h1 h2 hb hc
    omega
  · intro hi a
    have h3 := (i 3).isLt; have h4 := (i 4).isLt
    fin_cases a <;> simp at * <;> omega

theorem set_y (t : ℕ) (p : Fin 8) (off : Fin 5 → ℕ) (h)
    (e : off = ![t / 8, p.val / 2, t % 8 * 128 + 64 * (p.val % 2), 0, 0]) :
    (Rect.unit (s := S32x4x1024x8x128) off S1x1x64x8x128.size h).set = YP t p := by
  subst e
  ext i
  rw [Rect.mem_set_unit]
  simp only [mem_YP, yStep, yPart, Fin.ext_iff]
  have hc := (i 1).isLt; have hb := (i 2).isLt
  constructor
  · intro hi
    have h0 := hi 0; have h1 := hi 1; have h2 := hi 2
    simp at h0 h1 h2 hb hc
    omega
  · intro hi a
    have h3 := (i 3).isLt; have h4 := (i 4).isLt
    fin_cases a <;> simp at * <;> omega

/-! ## Peeling a step off, and joining one on -/

theorem XFrom_zero : XFrom 0 = Finset.univ := by simp [XFrom]
theorem XBelow_zero : XBelow 0 = ∅ := by simp [XBelow]
theorem YFrom_zero : YFrom 0 = Finset.univ := by simp [YFrom]
theorem YBelow_zero : YBelow 0 = ∅ := by simp [YBelow]

theorem XFrom_succ (t : ℕ) : XFrom t = XS t ∪ XFrom (t + 1) := by
  ext i; simp only [mem_XFrom, mem_XS, Finset.mem_union]; omega
theorem XFrom_disj (t : ℕ) : Disjoint (XS t) (XFrom (t + 1)) := by
  simp only [Finset.disjoint_left, mem_XFrom, mem_XS]; intros; omega
theorem XBelow_succ (t : ℕ) : XBelow (t + 1) = XBelow t ∪ XS t := by
  ext i; simp only [mem_XBelow, mem_XS, Finset.mem_union]; omega
theorem XBelow_disj (t : ℕ) : Disjoint (XBelow t) (XS t) := by
  simp only [Finset.disjoint_left, mem_XBelow, mem_XS]; intros; omega
theorem YFrom_succ (t : ℕ) : YFrom t = YS t ∪ YFrom (t + 1) := by
  ext i; simp only [mem_YFrom, mem_YS, Finset.mem_union]; omega
theorem YFrom_disj (t : ℕ) : Disjoint (YS t) (YFrom (t + 1)) := by
  simp only [Finset.disjoint_left, mem_YFrom, mem_YS]; intros; omega
theorem YBelow_succ (t : ℕ) : YBelow (t + 1) = YBelow t ∪ YS t := by
  ext i; simp only [mem_YBelow, mem_YS, Finset.mem_union]; omega
theorem YBelow_disj (t : ℕ) : Disjoint (YBelow t) (YS t) := by
  simp only [Finset.disjoint_left, mem_YBelow, mem_YS]; intros; omega

/-- After 256 steps every input row has been read, -/
theorem XBelow_all : XBelow 256 = Finset.univ := by
  ext i
  have h := (i 0).isLt
  simp at h
  simp only [mem_XBelow, xStep, Finset.mem_univ, iff_true]
  omega
/-- and every output index written. -/
theorem YBelow_all : YBelow 256 = Finset.univ := by
  ext i
  have h := (i 0).isLt
  have h2 := (i 2).isLt
  simp at h h2
  simp only [mem_YBelow, yStep, Finset.mem_univ, iff_true]
  omega

/-- The four slots are all of the input scratch, -/
theorem BS_all : (Finset.univ : Finset S4x256x16x128.Idx) = BS 0 ∪ (BS 1 ∪ (BS 2 ∪ BS 3)) := by
  ext i
  have h := (i 0).isLt
  simp at h
  simp only [mem_BS, bSlot, Finset.mem_union, Finset.mem_univ, true_iff]
  omega
/-- and of the output scratch. -/
theorem OS_all : (Finset.univ : Finset S4x4x128x8x128.Idx) = OS 0 ∪ (OS 1 ∪ (OS 2 ∪ OS 3)) := by
  ext i
  have h := (i 0).isLt
  simp at h
  simp only [mem_OS, oSlot, Finset.mem_union, Finset.mem_univ, true_iff]
  omega

theorem BS_disj0 : Disjoint (BS 0) (BS 1 ∪ (BS 2 ∪ BS 3)) := by
  simp only [Finset.disjoint_left, mem_BS, Finset.mem_union]; intros; omega
theorem BS_disj1 : Disjoint (BS 1) (BS 2 ∪ BS 3) := by
  simp only [Finset.disjoint_left, mem_BS, Finset.mem_union]; intros; omega
theorem BS_disj2 : Disjoint (BS 2) (BS 3) := by
  simp only [Finset.disjoint_left, mem_BS]; intros; omega
theorem OS_disj0 : Disjoint (OS 0) (OS 1 ∪ (OS 2 ∪ OS 3)) := by
  simp only [Finset.disjoint_left, mem_OS, Finset.mem_union]; intros; omega
theorem OS_disj1 : Disjoint (OS 1) (OS 2 ∪ OS 3) := by
  simp only [Finset.disjoint_left, mem_OS, Finset.mem_union]; intros; omega
theorem OS_disj2 : Disjoint (OS 2) (OS 3) := by
  simp only [Finset.disjoint_left, mem_OS]; intros; omega

/-! ## Holding a set is holding its parts -/

/-- A points-to on a set is the points-tos on the fibres of any classification of its indices into `n` parts. -/
theorem pointsTo_parts {nD : ℕ} {τ : Topo} {sig : RefSig} {Ix Name U Lvl : Type} [DecidableEq Ix] [DecidableEq Name] [URA U]
    [Preorder Lvl] {Val : EltTy → Type} {ℓ : Loc nD τ sig} {q : PosShare TreeShare} {f : Buf Val ℓ} {n : ℕ}
    (S : Finset (Idx ℓ)) (key : Idx ℓ → Fin n) (P : Fin n → Finset (Idx ℓ)) (hP : ∀ k i, i ∈ P k ↔ i ∈ S ∧ key i = k) :
    (ℓ ↦[S]{q} f : sProp (MT nD τ sig Ix Val Name U Lvl)) = bigSep Finset.univ fun k => ℓ ↦[P k]{q} f := by
  rw [← pointsTo_biUnion]
  · congr 1
    ext i
    simp [hP]
  · intro k _ k' _ hne
    rw [Finset.disjoint_left]
    intro i hi hi'
    exact hne (((hP k i).mp hi).2.symm.trans ((hP k' i).mp hi').2)

end Cert.Unshuffle

end
-- ==== Proof.Flights.lean ====
/-
  The kernel's transfers, in and out.

  A step's four transfers into a slot of the input scratch complete on one semaphore, and one wait takes them all; so do
  its eight transfers out of a slot of the output scratch. Each of the two groups is held as a batch: here are what each
  transfer of a batch delivers, the rule for issuing one, and the rule for the wait that drains the batch.
-/
module

public import proofs.«01_k».proof.Proof.Blocks
public import Idealize.ShloMosaic.Lib.Batch
public import Idealize.ShloMosaic.Lib.PointwiseCore
public import Mathlib.Tactic.IntervalCases

@[expose] public section

noncomputable section

namespace Cert.Unshuffle

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The four operands: the input rows, the output array, the two scratch buffers. -/
abbrev mX : Memref sig .tc .hbm S65536x16x128 .f32 := Memref.whole main_v0
abbrev mY : Memref sig .tc .hbm S32x4x1024x8x128 .f32 := Memref.whole main_v1
abbrev mB : Memref sig .tc .vmem S4x256x16x128 .f32 := Memref.whole cc0_scratch0
abbrev mO : Memref sig .tc .vmem S4x4x128x8x128 .f32 := Memref.whole cc0_scratch1

abbrev XArr (F : FTy → Type) : Type := S65536x16x128.Idx → Elt F .f32
abbrev YArr (F : FTy → Type) : Type := S32x4x1024x8x128.Idx → Elt F .f32
abbrev BArr (F : FTy → Type) : Type := S4x256x16x128.Idx → Elt F .f32
abbrev OArr (F : FTy → Type) : Type := S4x4x128x8x128.Idx → Elt F .f32

/-- Holding a set of indices of each operand. -/
abbrev ptX (c : Dev nD) (S : Finset S65536x16x128.Idx) (f : XArr F) : sProp 𝕄 :=
  mX.view.loc (c : Thread nD τ) ↦[S]{fullShare} f
abbrev ptY (c : Dev nD) (S : Finset S32x4x1024x8x128.Idx) (f : YArr F) : sProp 𝕄 :=
  mY.view.loc (c : Thread nD τ) ↦[S]{fullShare} f
abbrev ptB (c : Dev nD) (S : Finset S4x256x16x128.Idx) (f : BArr F) : sProp 𝕄 :=
  mB.view.loc (c : Thread nD τ) ↦[S]{fullShare} f
abbrev ptO (c : Dev nD) (S : Finset S4x4x128x8x128.Idx) (f : OArr F) : sProp 𝕄 :=
  mO.view.loc (c : Thread nD τ) ↦[S]{fullShare} f

/-! ## Semaphores -/

/-- The semaphore of slot `s` of the input scratch (the slot read modulo 4). -/
def inSem (s : ℕ) : DmaSem sig := (⟨s % 4, by have := Nat.mod_lt s (show 0 < 4 by decide); exact this.trans (by decide)⟩ : Fin 8)
/-- The semaphore of slot `s` of the output scratch. -/
def outSem (s : ℕ) : DmaSem sig := (⟨4 + s % 4, by have := Nat.mod_lt s (show 0 < 4 by decide); omega⟩ : Fin 8)

/-- The semaphore one cell of a four-semaphore array names: the array's first, moved on by the cell's offset. -/
theorem sem_val (base : ℕ) (hb : base + S4.numel ≤ 8) (s : ℕ) (off : Fin 1 → ℕ) (h) (e : off = ![s]) :
    ((((SemArray.consecutive base S4 hb : DmaSems sig S4).slice (Rect.unit (s := S4) off S1.size h)).squeeze S_ squeezes_S1_S_).sem : Fin 8).val
      = base + s := by
  subst e
  have hz : ∀ z : S1.Idx, (z 0).val = 0 := fun z => by
    have : (z 0).val < 1 := (z 0).isLt
    omega
  show base + (S4.rowMajor ((Rect.unit (s := S4) ![s] S1.size h).emb _)).val = base + s
  rw [Shape.rowMajor_val_one, Rect.emb_apply, hz]
  rfl

theorem inSem_eq (s : ℕ) (off : Fin 1 → ℕ) (h) (e : off = ![s]) :
    ((cc0_scratch2.slice (Rect.unit (s := S4) off S1.size h)).squeeze S_ squeezes_S1_S_).sem = inSem s := by
  have hs : s < 4 := by subst e; have := h 0; simp at this; omega
  apply Fin.ext
  refine (sem_val 0 _ s off h e).trans ?_
  simp only [inSem]; omega

theorem outSem_eq (s : ℕ) (off : Fin 1 → ℕ) (h) (e : off = ![s]) :
    ((cc0_scratch3.slice (Rect.unit (s := S4) off S1.size h)).squeeze S_ squeezes_S1_S_).sem = outSem s := by
  have hs : s < 4 := by subst e; have := h 0; simp at this; omega
  apply Fin.ext
  refine (sem_val 4 _ s off h e).trans ?_
  simp only [outSem]; omega

/-- The units one transfer of 64 input rows pays its semaphore, -/
theorem credit_in : RefSig.tileCredit S64x16x128 .f32 = 16384 := by rfl
/-- and the wait for a step's 256 rows takes; -/
theorem credit_in_all : RefSig.tileCredit S256x16x128 .f32 = 65536 := by rfl
/-- the units one transfer of 64 output rows pays, -/
theorem credit_out : RefSig.tileCredit S64x8x128 .f32 = 8192 := by rfl
/-- and the wait for a step's four channels of 128 rows takes. -/
theorem credit_out_all : RefSig.tileCredit S4x128x8x128 .f32 = 65536 := by rfl

/-! ## Squeezing away leading axes of extent one -/

theorem squeeze_b (h : S64x16x128.numel = S1x64x16x128.numel) (y : S64x16x128.Idx) :
    Shape.reshapeEquiv h y = ix4 (n0 := 1) (n1 := 64) (n2 := 16) (n3 := 128) 0 (y 0) (y 1) (y 2) := by
  apply Shape.reshapeEquiv_eq_of_rowMajor
  refine (Shape.rowMajor_val_four _).trans ((Shape.rowMajor_val_three _).trans ?_).symm
  simp

theorem squeeze_o (h : S64x8x128.numel = S1x1x64x8x128.numel) (y : S64x8x128.Idx) :
    Shape.reshapeEquiv h y = ix5 (n0 := 1) (n1 := 1) (n2 := 64) (n3 := 8) (n4 := 128) 0 0 (y 0) (y 1) (y 2) := by
  apply Shape.reshapeEquiv_eq_of_rowMajor
  refine (Shape.rowMajor_val_five _).trans ((Shape.rowMajor_val_three _).trans ?_).symm
  simp

/-! ## The sets the transfers' views cover -/

/-- The input rows a transfer in reads. -/
abbrev vX (off : Fin 3 → ℕ) (h : ∀ a, off a + S64x16x128.size a ≤ S65536x16x128.size a) : Memref sig .tc .hbm S64x16x128 .f32 :=
  mX.slice (Rect.unit (s := S65536x16x128) off S64x16x128.size h) (fun _ => rfl)
/-- The rows of the input scratch a transfer in writes. -/
abbrev vB (off : Fin 4 → ℕ) (h : ∀ a, off a + S1x64x16x128.size a ≤ S4x256x16x128.size a) : Memref sig .tc .vmem S64x16x128 .f32 :=
  (mB.slice (Rect.unit (s := S4x256x16x128) off S1x64x16x128.size h) (fun _ => rfl)).squeeze S64x16x128 squeezes_S1x64x16x128_S64x16x128
/-- The rows of the output scratch a transfer out reads. -/
abbrev vO (off : Fin 5 → ℕ) (h : ∀ a, off a + S1x1x64x8x128.size a ≤ S4x4x128x8x128.size a) : Memref sig .tc .vmem S64x8x128 .f32 :=
  (mO.slice (Rect.unit (s := S4x4x128x8x128) off S1x1x64x8x128.size h) (fun _ => rfl)).squeeze S64x8x128 squeezes_S1x1x64x8x128_S64x8x128
/-- The output rows a transfer out writes. -/
abbrev vY (off : Fin 5 → ℕ) (h : ∀ a, off a + S1x1x64x8x128.size a ≤ S32x4x1024x8x128.size a) : Memref sig .tc .hbm S64x8x128 .f32 :=
  (mY.slice (Rect.unit (s := S32x4x1024x8x128) off S1x1x64x8x128.size h) (fun _ => rfl)).squeeze S64x8x128 squeezes_S1x1x64x8x128_S64x8x128

theorem vX_set (t : ℕ) (q : Fin 4) (off : Fin 3 → ℕ) (h) (e : off = ![256 * t + 64 * q.val, 0, 0]) :
    (vX off h).view.set = XP t q :=
  (View.set_slice_whole _ _).trans (set_x t q off h e)
theorem vB_set (s : ℕ) (q : Fin 4) (off : Fin 4 → ℕ) (h) (e : off = ![s, 64 * q.val, 0, 0]) :
    (vB off h).view.set = BP s q :=
  (View.set_reshape _ _).trans ((View.set_slice_whole _ _).trans (set_b s q off h e))
theorem vO_set (s : ℕ) (p : Fin 8) (off : Fin 5 → ℕ) (h) (e : off = ![s, p.val / 2, 64 * (p.val % 2), 0, 0]) :
    (vO off h).view.set = OP s p :=
  (View.set_reshape _ _).trans ((View.set_slice_whole _ _).trans (set_o s p off h e))
theorem vY_set (t : ℕ) (p : Fin 8) (off : Fin 5 → ℕ) (h)
    (e : off = ![t / 8, p.val / 2, t % 8 * 128 + 64 * (p.val % 2), 0, 0]) :
    (vY off h).view.set = YP t p :=
  (View.set_reshape _ _).trans ((View.set_slice_whole _ _).trans (set_y t p off h e))

/-! ## Into the input scratch -/

/-- Transfer `q` of step `t`, landed: its rows of the slot hold the step's input rows, and those rows are given back. -/
def inDeliv (x : XArr F) (c : Dev nD) (t : ℕ) (q : Fin 4) : sProp 𝕄 :=
  iprop(ptB c (BP (t % 4) q) (inBuf x t) ∗ ptX c (XP t q) x)

/-- What transfer `q` of step `t` is issued with: its input rows, and its rows of the slot at any contents. -/
def inPiece (x : XArr F) (c : Dev nD) (t : ℕ) (q : Fin 4) : sProp 𝕄 :=
  iprop(ptX c (XP t q) x ∗ ∃ f : BArr F, ptB c (BP (t % 4) q) f)

instance (x : XArr F) (c : Dev nD) (t : ℕ) (q : Fin 4) : Storable (upEmb : UEmb _ 𝕄) (inDeliv x c t q) := by
  unfold inDeliv; infer_instance

/-- Step `t`'s transfers in, of which the first `j` have been issued. -/
def InIssued (x : XArr F) (c : Dev nD) (t j : ℕ) : sProp 𝕄 :=
  iprop(Transfers.Batch (Lvl := ℕ) (countersEmb (U := Pipeline.UD sig nD τ)) (c : Thread nD τ) (.dma (inSem t)) () 16384
      (inDeliv x c t) j 0
    ∗ bigSep (Transfers.pending j) (inPiece x c t))

/-- The contents a transfer in leaves are the ones named. -/
theorem in_write (x : XArr F) (t : ℕ) (ht : t < 256) (q : Fin 4) (fd : BArr F)
    (offx : Fin 3 → ℕ) (hx) (ex : offx = ![256 * t + 64 * q.val, 0, 0])
    (offb : Fin 4 → ℕ) (hb) (eb : offb = ![t % 4, 64 * q.val, 0, 0]) :
    ∀ i ∈ BP (t % 4) q,
      ((vB offb hb).view.write (Elt F) fd (ReadAs.same.apply ((vX offx hx).view.read (Elt F) x)) Finset.univ) i = inBuf x t i := by
  intro i hi
  obtain ⟨y, -, rfl⟩ := Finset.mem_map.mp ((vB_set (t % 4) q offb hb eb).symm ▸ hi)
  refine (View.write_emb_of_mem (M := Finset.univ) _ _ (Finset.mem_univ y)).trans ?_
  subst ex eb
  show x ((Rect.unit (s := S65536x16x128) _ S64x16x128.size hx).emb y)
    = inBuf x t ((Rect.unit (s := S4x256x16x128) _ S1x64x16x128.size hb).emb (Shape.reshapeEquiv _ y))
  rw [squeeze_b]
  unfold inBuf
  congr 1
  have h0 : (y 0).val < 64 := (y 0).isLt
  have hq := q.isLt
  funext a
  apply Fin.ext
  fin_cases a
  · simp [xAt, Rect.emb_apply]
    omega
  · simp [xAt, Rect.emb_apply]
  · simp [xAt, Rect.emb_apply]

/-- ISSUING transfer `j` of step `t` in. -/
theorem wp_in (x : XArr F) (c : Dev nD) (t : ℕ) (ht : t < 256) (q : Fin 4) (j : ℕ) (hj : q.val = j)
    (offx : Fin 3 → ℕ) (hx) (ex : offx = ![256 * t + 64 * q.val, 0, 0])
    (offb : Fin 4 → ℕ) (hb) (eb : offb = ![t % 4, 64 * q.val, 0, 0])
    (offs : Fin 1 → ℕ) (hs) (es : offs = ![t % 4]) (h1 h2 h3)
    (Q : PUnit → sProp 𝕄) :
    InIssued x c t j ⊢ iprop((InIssued x c t (j + 1) -∗ Q ⟨⟩)
      -∗ wp frame (wpE (defs₀ (F := F)) Variants.none (c : Thread nD τ) none) Set.univ
          (Prog.lift (.enqueueDma (vX offx hx) (.here (vB offb hb))
            (.dma ((cc0_scratch2.slice (Rect.unit (s := S4) offs S1.size hs)).squeeze S_ squeezes_S1_S_).sem) h1 h2 h3)) Q) := by
  subst hj
  revert h3
  rw [inSem_eq (t % 4) offs hs es, show inSem (t % 4) = inSem t by simp [inSem]]
  intro h3
  unfold InIssued
  rw [Transfers.bigSep_pending_step _ _ q.isLt]
  unfold inPiece
  iintro ⟨HB, ⟨Hx, ⟨%f, Hb⟩⟩, Hrest⟩ Hk
  have hD : iprop(((vB offb hb).view.loc (c : Thread nD τ) ↦[BP (t % 4) q]{fullShare}
        ((vB offb hb).view.write (Elt F) f (ReadAs.same.apply ((vX offx hx).view.read (Elt F) x)) Finset.univ))
      ∗ ((vX offx hx).view.loc (c : Thread nD τ) ↦[(vX offx hx).view.set]{fullShare} x)) ⊢ inDeliv x c t ⟨q.val, q.isLt⟩ := by
    unfold inDeliv
    rw [vX_set t q offx hx ex]
    exact sep_mono_l (Entails.of_eq (pointsTo_congr (in_write x t ht q f offx hx ex offb hb eb)))
  iapply (Transfers.wp_dmaBatch (Lvl := ℕ) (countersEmb (U := Pipeline.UD sig nD τ)) Variants.none (c : Thread nD τ) none
    (src := vX offx hx) (dst := vB offb hb) (fs := x) (fd := f) (Sd := BP (t % 4) q) (q := fullShare)
    (sm := .dma (inSem t)) (D := inDeliv x c t) (j := q.val) (u := 0)
    () 16384 (credit_in) (vB_set _ q offb hb eb).subset q.isLt (Nat.zero_le _) hD) $$ [Hx Hb HB]
  · isplitl [Hx]
    · rw [vX_set t q offx hx ex]; iexact Hx
    isplitl [Hb]; · iexact Hb
    iexact HB
  iintro HB
  rw [wp_ret]
  imodintro
  iapply Hk
  isplitl [HB]; · iexact HB
  iexact Hrest

/-- A family of pairs is a pair of families. -/
theorem sep_parts {I : Type} (s : Finset I) (Φ Ψ : I → sProp 𝕄) :
    (bigSep s fun i => iprop(Φ i ∗ Ψ i)) = iprop(bigSep s Φ ∗ bigSep s Ψ) :=
  Idealize.SL.BI.bigSep_sep s Φ Ψ

/-- The input rows, part by part. -/
theorem x_parts (c : Dev nD) (t : ℕ) (f : XArr F) :
    (ptX c (XS t) f : sProp 𝕄) = bigSep Finset.univ fun p => ptX c (XP t p) f := by
  exact pointsTo_parts (ℓ := mX.view.loc (c : Thread nD τ)) (XS t) xPart (XP t) (fun _ _ => by rw [XP, Finset.mem_filter])

/-- The input slot, part by part. -/
theorem b_parts (c : Dev nD) (t : ℕ) (f : BArr F) :
    (ptB c (BS t) f : sProp 𝕄) = bigSep Finset.univ fun p => ptB c (BP t p) f := by
  exact pointsTo_parts (ℓ := mB.view.loc (c : Thread nD τ)) (BS t) bPart (BP t) (fun _ _ => by rw [BP, Finset.mem_filter])

/-- The output slot, part by part. -/
theorem o_parts (c : Dev nD) (t : ℕ) (f : OArr F) :
    (ptO c (OS t) f : sProp 𝕄) = bigSep Finset.univ fun p => ptO c (OP t p) f := by
  exact pointsTo_parts (ℓ := mO.view.loc (c : Thread nD τ)) (OS t) oPart (OP t) (fun _ _ => by rw [OP, Finset.mem_filter])

/-- The output rows, part by part. -/
theorem y_parts (c : Dev nD) (t : ℕ) (f : YArr F) :
    (ptY c (YS t) f : sProp 𝕄) = bigSep Finset.univ fun p => ptY c (YP t p) f := by
  exact pointsTo_parts (ℓ := mY.view.loc (c : Thread nD τ)) (YS t) yPart (YP t) (fun _ _ => by rw [YP, Finset.mem_filter])

/-- OPENING step `t`'s batch in: the slot, at any contents, and the step's input rows are what its transfers are issued
    with. -/
theorem in_open (x : XArr F) (c : Dev nD) (t : ℕ) (f : BArr F) :
    iprop(semVal ((c : Thread nD τ), SemLoc.dma (inSem t)) 0 ∗ ptB c (BS (t % 4)) f ∗ ptX c (XS t) x)
      ⊢ (|={Set.univ}=> InIssued x c t 0 : sProp 𝕄) := by
  unfold InIssued
  iintro ⟨Hs, Hb, Hx⟩
  imod (Transfers.batch_alloc' (Lvl := ℕ) (countersEmb (U := Pipeline.UD sig nD τ)) (c : Thread nD τ) () 16384
    (inDeliv x c t) (sm := SemLoc.dma (inSem t)) (E := Set.univ)) $$ Hs with HB
  imodintro
  isplitl [HB]; · iexact HB
  rw [Transfers.pending_zero]
  unfold inPiece
  rw [sep_parts Finset.univ (fun q => ptX c (XP t q) x) (fun q => iprop(∃ f, ptB c (BP (t % 4) q) f))]
  isplitl [Hx]
  · iapply (Entails.of_eq (x_parts c t x)) $$ Hx
  · iapply ((Entails.of_eq (b_parts c (t % 4) f)).trans
      (bigSep_mono fun q _ => exists_intro (Φ := fun f => ptB c (BP (t % 4) q) f) f)) $$ Hb

/-- The core owes nothing, whatever waits it has made. -/
def Owes (c : Dev nD) : sProp 𝕄 := iprop(∃ W, owes (c : Thread nD τ) 0 W)

/-- THE WAIT that drains step `t`'s batch in: the slot holds the step's rows, and the input rows are back. -/
theorem wp_in_wait (x : XArr F) (c : Dev nD) (t : ℕ)
    (offs : Fin 1 → ℕ) (hs) (es : offs = ![t % 4]) {src : Memref sig .tc .hbm S256x16x128 .f32}
    (offb : Fin 4 → ℕ) (hb) (h1 h2) (Q : PUnit → sProp 𝕄) :
    iprop(InIssued x c t 4 ∗ Owes c) ⊢ iprop((iprop(ptB c (BS (t % 4)) (inBuf x t) ∗ ptX c (XS t) x
          ∗ semVal ((c : Thread nD τ), SemLoc.dma (inSem t)) 0 ∗ Owes c) -∗ Q ⟨⟩)
      -∗ wp frame (wpE (defs₀ (F := F)) Variants.none (c : Thread nD τ) none) Set.univ
          (Prog.lift (.waitDma2 ((cc0_scratch2.slice (Rect.unit (s := S4) offs S1.size hs)).squeeze S_ squeezes_S1_S_).sem src
            ((mB.slice (Rect.unit (s := S4x256x16x128) offb S1x256x16x128.size hb) (fun _ => rfl)).squeeze S256x16x128
              squeezes_S1x256x16x128_S256x16x128) h1 h2)) Q) := by
  rw [inSem_eq (t % 4) offs hs es, show inSem (t % 4) = inSem t by simp [inSem]]
  unfold InIssued Owes
  iintro ⟨⟨HB, -⟩, ⟨%W, HW⟩⟩ Hk
  iapply (Transfers.wp_waitBatchAll (Lvl := ℕ) (countersEmb (U := Pipeline.UD sig nD τ)) Variants.none (c : Thread nD τ) none
    (srcw := src)
    (dstw := (mB.slice (Rect.unit (s := S4x256x16x128) offb S1x256x16x128.size hb) (fun _ => rfl)).squeeze S256x16x128
      squeezes_S1x256x16x128_S256x16x128)
    (sem := inSem t) (D := inDeliv x c t) (N := 16384) (J := 65536) (u := 0) () credit_in_all (by decide) (by decide)) $$ [HB HW]
  · isplitl [HB]; · iexact HB
    iexact HW
  iintro ⟨HD, Hv, HW⟩
  rw [wp_ret]
  imodintro
  iapply Hk
  ihave HD' := (show bigSep Finset.univ (inDeliv x c t) ⊢ iprop(ptB c (BS (t % 4)) (inBuf x t) ∗ ptX c (XS t) x) from by
    unfold inDeliv
    rw [sep_parts Finset.univ (fun q => ptB c (BP (t % 4) q) (inBuf x t)) (fun q => ptX c (XP t q) x)]
    rw [b_parts, x_parts]) $$ HD
  icases HD' with ⟨Hb, Hx⟩
  isplitl [Hb]; · iexact Hb
  isplitl [Hx]; · iexact Hx
  isplitl [Hv]; · iexact Hv
  iexists _; iexact HW

/-! ## Out of the output scratch -/

/-- Transfer `p` of step `t` out, landed: its output rows are the final ones, and its part of the slot is given back. -/
def outDeliv (x : XArr F) (c : Dev nD) (t : ℕ) (p : Fin 8) : sProp 𝕄 :=
  iprop(ptY c (YP t p) (outArr x) ∗ ptO c (OP (t % 4) p) (outBuf x t))

/-- What transfer `p` of step `t` out is issued with: its part of the slot, and its output rows as they were found. -/
def outPiece (x : XArr F) (y : YArr F) (c : Dev nD) (t : ℕ) (p : Fin 8) : sProp 𝕄 :=
  iprop(ptO c (OP (t % 4) p) (outBuf x t) ∗ ptY c (YP t p) y)

instance (x : XArr F) (c : Dev nD) (t : ℕ) (p : Fin 8) : Storable (upEmb : UEmb _ 𝕄) (outDeliv x c t p) := by
  unfold outDeliv; infer_instance

/-- Step `t`'s transfers out, of which the first `j` have been issued. -/
def OutIssued (x : XArr F) (y : YArr F) (c : Dev nD) (t j : ℕ) : sProp 𝕄 :=
  iprop(Transfers.Batch (Lvl := ℕ) (countersEmb (U := Pipeline.UD sig nD τ)) (c : Thread nD τ) (.dma (outSem t)) () 8192
      (outDeliv x c t) j 0
    ∗ bigSep (Transfers.pending j) (outPiece x y c t))

/-- The contents a transfer out leaves are the final ones. -/
theorem out_write (x : XArr F) (t : ℕ) (p : Fin 8) (y : YArr F)
    (offo : Fin 5 → ℕ) (ho) (eo : offo = ![t % 4, p.val / 2, 64 * (p.val % 2), 0, 0])
    (offy : Fin 5 → ℕ) (hy) (ey : offy = ![t / 8, p.val / 2, t % 8 * 128 + 64 * (p.val % 2), 0, 0]) :
    ∀ i ∈ YP t p,
      ((vY offy hy).view.write (Elt F) y (ReadAs.same.apply ((vO offo ho).view.read (Elt F) (outBuf x t))) Finset.univ) i = outArr x i := by
  intro i hi
  obtain ⟨z, -, rfl⟩ := Finset.mem_map.mp ((vY_set t p offy hy ey).symm ▸ hi)
  refine (View.write_emb_of_mem (M := Finset.univ) _ _ (Finset.mem_univ z)).trans ?_
  subst eo ey
  show outBuf x t ((Rect.unit (s := S4x4x128x8x128) _ S1x1x64x8x128.size ho).emb (Shape.reshapeEquiv _ z))
    = outArr x ((Rect.unit (s := S32x4x1024x8x128) _ S1x1x64x8x128.size hy).emb (Shape.reshapeEquiv _ z))
  rw [squeeze_o]
  unfold outBuf outArr
  congr 1
  simp [Rect.emb_apply, Nat.add_assoc]

/-- ISSUING transfer `p` of step `t` out. -/
theorem wp_out (x : XArr F) (y : YArr F) (c : Dev nD) (t : ℕ) (p : Fin 8) (j : ℕ) (hj : p.val = j)
    (offo : Fin 5 → ℕ) (ho) (eo : offo = ![t % 4, p.val / 2, 64 * (p.val % 2), 0, 0])
    (offy : Fin 5 → ℕ) (hy) (ey : offy = ![t / 8, p.val / 2, t % 8 * 128 + 64 * (p.val % 2), 0, 0])
    (offs : Fin 1 → ℕ) (hs) (es : offs = ![t % 4]) (h1 h2 h3)
    (Q : PUnit → sProp 𝕄) :
    OutIssued x y c t j ⊢ iprop((OutIssued x y c t (j + 1) -∗ Q ⟨⟩)
      -∗ wp frame (wpE (defs₀ (F := F)) Variants.none (c : Thread nD τ) none) Set.univ
          (Prog.lift (.enqueueDma (vO offo ho) (.here (vY offy hy))
            (.dma ((cc0_scratch3.slice (Rect.unit (s := S4) offs S1.size hs)).squeeze S_ squeezes_S1_S_).sem) h1 h2 h3)) Q) := by
  subst hj
  revert h3
  rw [outSem_eq (t % 4) offs hs es, show outSem (t % 4) = outSem t by simp [outSem]]
  intro h3
  unfold OutIssued
  rw [Transfers.bigSep_pending_step _ _ p.isLt]
  unfold outPiece
  iintro ⟨HB, ⟨Ho, Hy⟩, Hrest⟩ Hk
  have hD : iprop(((vY offy hy).view.loc (c : Thread nD τ) ↦[YP t p]{fullShare}
        ((vY offy hy).view.write (Elt F) y (ReadAs.same.apply ((vO offo ho).view.read (Elt F) (outBuf x t))) Finset.univ))
      ∗ ((vO offo ho).view.loc (c : Thread nD τ) ↦[(vO offo ho).view.set]{fullShare} (outBuf x t))) ⊢ outDeliv x c t ⟨p.val, p.isLt⟩ := by
    unfold outDeliv
    rw [vO_set (t % 4) p offo ho eo]
    exact sep_mono_l (Entails.of_eq (pointsTo_congr (out_write x t p y offo ho eo offy hy ey)))
  iapply (Transfers.wp_dmaBatch (Lvl := ℕ) (countersEmb (U := Pipeline.UD sig nD τ)) Variants.none (c : Thread nD τ) none
    (src := vO offo ho) (dst := vY offy hy) (fs := outBuf x t) (fd := y) (Sd := YP t p) (q := fullShare)
    (sm := .dma (outSem t)) (D := outDeliv x c t) (j := p.val) (u := 0)
    () 8192 (credit_out) (vY_set _ p offy hy ey).subset p.isLt (Nat.zero_le _) hD) $$ [Ho Hy HB]
  · isplitl [Ho]
    · rw [vO_set (t % 4) p offo ho eo]; iexact Ho
    isplitl [Hy]; · iexact Hy
    iexact HB
  iintro HB
  rw [wp_ret]
  imodintro
  iapply Hk
  isplitl [HB]; · iexact HB
  iexact Hrest

/-- OPENING step `t`'s batch out: the slot, holding the step's rearranged rows, and the step's output rows are what its
    transfers are issued with. -/
theorem out_open (x : XArr F) (y : YArr F) (c : Dev nD) (t : ℕ) :
    iprop(semVal ((c : Thread nD τ), SemLoc.dma (outSem t)) 0 ∗ ptO c (OS (t % 4)) (outBuf x t) ∗ ptY c (YS t) y)
      ⊢ (|={Set.univ}=> OutIssued x y c t 0 : sProp 𝕄) := by
  unfold OutIssued
  iintro ⟨Hs, Ho, Hy⟩
  imod (Transfers.batch_alloc' (Lvl := ℕ) (countersEmb (U := Pipeline.UD sig nD τ)) (c : Thread nD τ) () 8192
    (outDeliv x c t) (sm := SemLoc.dma (outSem t)) (E := Set.univ)) $$ Hs with HB
  imodintro
  isplitl [HB]; · iexact HB
  rw [Transfers.pending_zero]
  unfold outPiece
  rw [sep_parts Finset.univ (fun p => ptO c (OP (t % 4) p) (outBuf x t)) (fun p => ptY c (YP t p) y)]
  isplitl [Ho]
  · iapply (Entails.of_eq (o_parts c (t % 4) (outBuf x t))) $$ Ho
  · iapply (Entails.of_eq (y_parts c t y)) $$ Hy

/-- THE WAIT that drains step `t`'s batch out: the step's output rows are the final ones, and the slot is back. -/
theorem wp_out_wait (x : XArr F) (y : YArr F) (c : Dev nD) (t : ℕ)
    (offs : Fin 1 → ℕ) (hs) (es : offs = ![t % 4]) {src : Memref sig .tc .vmem S4x128x8x128 .f32}
    (offy : Fin 5 → ℕ) (hy) (h1 h2) (Q : PUnit → sProp 𝕄) :
    iprop(OutIssued x y c t 8 ∗ Owes c) ⊢ iprop((iprop(ptO c (OS (t % 4)) (outBuf x t) ∗ ptY c (YS t) (outArr x)
          ∗ semVal ((c : Thread nD τ), SemLoc.dma (outSem t)) 0 ∗ Owes c) -∗ Q ⟨⟩)
      -∗ wp frame (wpE (defs₀ (F := F)) Variants.none (c : Thread nD τ) none) Set.univ
          (Prog.lift (.waitDma2 ((cc0_scratch3.slice (Rect.unit (s := S4) offs S1.size hs)).squeeze S_ squeezes_S1_S_).sem src
            ((mY.slice (Rect.unit (s := S32x4x1024x8x128) offy S1x4x128x8x128.size hy) (fun _ => rfl)).squeeze S4x128x8x128
              squeezes_S1x4x128x8x128_S4x128x8x128) h1 h2)) Q) := by
  rw [outSem_eq (t % 4) offs hs es, show outSem (t % 4) = outSem t by simp [outSem]]
  unfold OutIssued Owes
  iintro ⟨⟨HB, -⟩, ⟨%W, HW⟩⟩ Hk
  iapply (Transfers.wp_waitBatchAll (Lvl := ℕ) (countersEmb (U := Pipeline.UD sig nD τ)) Variants.none (c : Thread nD τ) none
    (srcw := src)
    (dstw := (mY.slice (Rect.unit (s := S32x4x1024x8x128) offy S1x4x128x8x128.size hy) (fun _ => rfl)).squeeze S4x128x8x128
      squeezes_S1x4x128x8x128_S4x128x8x128)
    (sem := outSem t) (D := outDeliv x c t) (N := 8192) (J := 65536) (u := 0) () credit_out_all (by decide) (by decide)) $$ [HB HW]
  · isplitl [HB]; · iexact HB
    iexact HW
  iintro ⟨HD, Hv, HW⟩
  rw [wp_ret]
  imodintro
  iapply Hk
  ihave HD' := (show bigSep Finset.univ (outDeliv x c t) ⊢ iprop(ptY c (YS t) (outArr x) ∗ ptO c (OS (t % 4)) (outBuf x t)) from by
    unfold outDeliv
    rw [sep_parts Finset.univ (fun p => ptY c (YP t p) (outArr x)) (fun p => ptO c (OP (t % 4) p) (outBuf x t))]
    rw [y_parts, o_parts]) $$ HD
  icases HD' with ⟨Hy, Ho⟩
  isplitl [Ho]; · iexact Ho
  isplitl [Hy]; · iexact Hy
  isplitl [Hv]; · iexact Hv
  iexists _; iexact HW

end Cert.Unshuffle

end
-- ==== Proof.Lanes.lean ====
/-
  WHAT ONE BLOCK COMPUTES. The kernel loads, of 128 input rows, the even groups into one vector and the odd groups into
  another, gathers each one's 128 lanes so that the even lanes come first and the odd ones after, and concatenates the
  first halves of the two for one channel, the second halves for the next. These lemmas read the stored vectors at an
  index.
-/
module

public import proofs.«01_k».proof.Proof.Gen.KernelIdeal.Skeleton
public import Idealize.ShloMosaic.Lib.Pipeline.Value
public import Idealize.ShloMosaic.Lib.PointwiseCore

@[expose] public section

namespace Cert.Unshuffle

open Cert.KernelIdeal Cert.KernelIdeal.Gen
open Idealize.ShloMosaic Idealize.ShloMosaic.Tactic

variable {F : FTy → Type} [FloatOps F]

/-- The lane the gather reads at lane `l`: the even lanes in order, then the odd ones. -/
def lane (l : Fin 128) : Fin 128 := if l.val < 64 then ⟨2 * l.val % 128, Nat.mod_lt _ (by decide)⟩ else ⟨(2 * l.val - 127) % 128, Nat.mod_lt _ (by decide)⟩

/-- The gather's index words, from lane numbers. -/
def permWord (l : BitVec 32) : BitVec 32 :=
  Scalar.select (IntOp.cmpi .slt l 64#32) (IntOp.muli 2#32 l) (IntOp.subi (IntOp.muli 2#32 l) 127#32)

/-- A negative index word counts from the end. -/
def wrapWord (p : BitVec 32) : BitVec 32 :=
  Scalar.select (IntOp.cmpi .slt p 0#32) (IntOp.addi p 128#32) p

theorem wrap_perm : ∀ l : Fin 128, (wrapWord (permWord (BitVec.ofNat 32 l.val))).toNat % 128 = (lane l).val := by
  decide +kernel

theorem pay1_apply (i : S128x8x128.Idx) : k0_pay1 i = permWord (BitVec.ofNat 32 (i 2).val) := by
  pointwise [k0_pay1]
  rfl

/-- The gathered vector at an index. -/
theorem pay3_apply (v : FVec F S128x8x128 .f32) (r : Fin 128) (g : Fin 8) (l : Fin 128) :
    k0_pay3 k0_pay1 v (ix3 r g l) = v (ix3 r g (lane l)) := by
  pointwise [k0_pay3]
  congr 2
  refine Fin.ext ?_
  simp only [pay1_apply]
  exact wrap_perm l

/-- The second gather is the first's function of its own operand. -/
theorem pay4_eq (w : Vec F S1x128x8x128 .f32) : k0_pay4 k0_pay1 w = k0_pay3 k0_pay1 (k0_pay2 w) := rfl

/-- Lane `p` (0 or 1 for even or odd) of the pair that output lane `l` comes from. -/
def half (p : ℕ) (l : Fin 128) : Fin 128 := ⟨(2 * l.val + p) % 128, Nat.mod_lt _ (by decide)⟩

/-- The vector stored for an even channel, at an index: the even lanes of the even group, then those of the odd one. -/
theorem pay5_apply (v w : Vec F S1x128x8x128 .f32) (r : Fin 128) (g : Fin 8) (l : Fin 128) :
    k0_pay5 k0_pay1 (k0_pay2 v) w (ix5 0 0 r g l)
      = if l.val < 64 then v (ix4 0 r g (half 0 l)) else w (ix4 0 r g (half 0 l)) := by
  pointwise [k0_pay5, pay4_eq, pay3_apply, k0_pay2]
  split
  all_goals
    congr 2
    refine Fin.ext ?_
    simp only [lane, half]
    split <;> simp only [] <;> omega

/-- The vector stored for an odd channel, at an index: the odd lanes of the even group, then those of the odd one. -/
theorem pay6_apply (v w : Vec F S1x128x8x128 .f32) (r : Fin 128) (g : Fin 8) (l : Fin 128) :
    k0_pay6 k0_pay1 (k0_pay2 v) w (ix5 0 0 r g l)
      = if l.val < 64 then v (ix4 0 r g (half 1 l)) else w (ix4 0 r g (half 1 l)) := by
  pointwise [k0_pay6, pay4_eq, pay3_apply, k0_pay2]
  split
  all_goals
    congr 2
    refine Fin.ext ?_
    simp only [lane, half]
    split <;> simp only [] <;> omega

/-- The second pair of channels is computed as the first. -/
theorem pay11_eq (v w : Vec F S1x128x8x128 .f32) :
    k0_pay11 k0_pay1 (k0_pay7 v) (k0_pay8 w) 0#32 = k0_pay5 k0_pay1 (k0_pay2 v) w := rfl
theorem pay12_eq (v w : Vec F S1x128x8x128 .f32) :
    k0_pay12 k0_pay1 (k0_pay7 v) (k0_pay8 w) 0#32 = k0_pay6 k0_pay1 (k0_pay2 v) w := rfl

end Cert.Unshuffle

end
-- ==== Proof.Compute.lean ====
/-
  What one step computes, as the kernel's loads and stores: four loads of the step's slot of the input scratch (even or
  odd rows, even or odd groups) and four stores, one per channel, to its slot of the output scratch. After the four the
  slot holds the step's rearranged rows.
-/
module

public import proofs.«01_k».proof.Proof.Flights
public import proofs.«01_k».proof.Proof.Lanes

@[expose] public section

noncomputable section

namespace Cert.Unshuffle

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Values -/

/-- Of step `t`'s 256 rows, those of parity `rp`, and of each the groups of parity `gp`. -/
def loaded {α : Type} (x : S65536x16x128.Idx → α) (t : ℕ) (rp gp : Fin 2) : S1x128x8x128.Idx → α :=
  fun j => x (xAt (256 * t + (rp.val + 2 * (j 1).val)) ⟨(gp.val + 2 * (j 2).val) % 16, Nat.mod_lt _ (by decide)⟩ (j 3))

/-- What is to be stored to channel `m` at step `t`. -/
def stored {α : Type} (x : S65536x16x128.Idx → α) (t : ℕ) (m : Fin 4) (r : Fin 128) (g : Fin 8) (l : Fin 128) : α :=
  x (srcAt (t / 8) (t % 8 * 128 + r.val) m.val g.val l.val)

theorem loaded_stored {α : Type} (x : S65536x16x128.Idx → α) (t : ℕ) (rp cp : Fin 2) (m : Fin 4) (hm : m.val = 2 * rp.val + cp.val)
    (r : Fin 128) (g : Fin 8) (l : Fin 128) :
    (if l.val < 64 then loaded x t rp 0 (ix4 0 r g (half cp.val l)) else loaded x t rp 1 (ix4 0 r g (half cp.val l)))
      = stored x t m r g l := by
  have h1 := r.isLt; have h2 := g.isLt; have h3 := l.isLt; have h4 := cp.isLt; have h5 := rp.isLt
  unfold loaded stored
  rw [← apply_ite x]
  congr 1
  funext a
  apply Fin.ext
  split <;> fin_cases a <;> simp [xAt, srcAt, half] <;> omega

/-- The first of each pair of channels: the even lanes. -/
theorem stored_even (x : XArr F) (t : ℕ) (rp : Fin 2) (m : Fin 4) (hm : m.val = 2 * rp.val)
    (r : Fin 128) (g : Fin 8) (l : Fin 128) :
    k0_pay5 k0_pay1 (k0_pay2 (loaded x t rp 0)) (loaded x t rp 1) (ix5 0 0 r g l) = stored x t m r g l :=
  (pay5_apply _ _ r g l).trans (loaded_stored x t rp 0 m hm r g l)

/-- The second of each pair: the odd lanes. -/
theorem stored_odd (x : XArr F) (t : ℕ) (rp : Fin 2) (m : Fin 4) (hm : m.val = 2 * rp.val + 1)
    (r : Fin 128) (g : Fin 8) (l : Fin 128) :
    k0_pay6 k0_pay1 (k0_pay2 (loaded x t rp 0)) (loaded x t rp 1) (ix5 0 0 r g l) = stored x t m r g l :=
  (pay6_apply _ _ r g l).trans (loaded_stored x t rp 1 m hm r g l)

/-! ## Loads -/

/-- A LOAD of the step's slot: the rows and groups of the given parities. -/
theorem wp_load_in (x : XArr F) (c : Dev nD) (t : ℕ) (rp gp : Fin 2) (off : Fin 4 → ℕ) (hb) (e : off = ![t % 4, rp.val, gp.val, 0])
    (hl) (Q : (S1x128x8x128.Idx → Elt F .f32) → sProp 𝕄) :
    ptB c (BS (t % 4)) (inBuf x t) ⊢ iprop((ptB c (BS (t % 4)) (inBuf x t) -∗ Q (loaded x t rp gp))
      -∗ wp frame (wpE (defs₀ (F := F)) Variants.none (c : Thread nD τ) none) Set.univ
          (Prog.lift (.load mB (⟨off, S1x128x8x128.size, ![1, 2, 2, 1], hb⟩ : LoadRect S4x256x16x128) hl)) Q) := by
  subst e
  have hS : mB.view.setOn (⟨![t % 4, rp.val, gp.val, 0], S1x128x8x128.size, ![1, 2, 2, 1], hb⟩ : LoadRect S4x256x16x128).set ⊆ BS (t % 4) := by
    intro i hi
    obtain ⟨j, hj, rfl⟩ := Finset.mem_map.mp hi
    obtain ⟨k, hk, e⟩ := (LoadRect.mem_set _).mp hj 0
    refine mem_BS.mpr ?_
    show (j 0).val = t % 4
    have hk' : k < 1 := hk
    have e' : (j 0).val = t % 4 + 1 * k := e
    omega
  have hv : mB.view.readAt (Elt F) (⟨![t % 4, rp.val, gp.val, 0], S1x128x8x128.size, ![1, 2, 2, 1], hb⟩ : LoadRect S4x256x16x128) (inBuf x t)
      = loaded x t rp gp := by
    funext j
    show inBuf x t (LoadRect.idx _ j) = loaded x t rp gp j
    unfold inBuf loaded
    congr 1
    have h2 : (j 2).val < 8 := (j 2).isLt
    have := gp.isLt
    funext a
    apply Fin.ext
    fin_cases a <;> simp [xAt, LoadRect.idx_apply]
    omega
  iintro H Hk
  iapply (wp_load Variants.none (c : Thread nD τ) none Set.univ (m := mB) (f := inBuf x t) hS) $$ H
  iintro H
  rw [hv, wp_ret]
  imodintro
  iapply Hk
  iexact H

/-! ## Stores -/

/-- The step's slot of the output scratch with its first `m` channels stored. -/
def OutPart (x : XArr F) (c : Dev nD) (t m : ℕ) : sProp 𝕄 :=
  iprop(∃ f, ⌜∀ i ∈ OS (t % 4), (i 1).val < m → f i = outBuf x t i⌝ ∗ ptO c (OS (t % 4)) f)

/-- Nothing stored yet: any contents. -/
theorem outPart_start (x : XArr F) (c : Dev nD) (t : ℕ) (f : OArr F) : ptO c (OS (t % 4)) f ⊢ OutPart x c t 0 := by
  unfold OutPart
  iintro H
  iexists f
  isplitr
  · ipureintro
    intro i _ h
    exact absurd h (Nat.not_lt_zero _)
  iexact H

/-- All four channels stored: the slot holds the step's rearranged rows. -/
theorem outPart_done (x : XArr F) (c : Dev nD) (t : ℕ) : OutPart x c t 4 ⊢ ptO c (OS (t % 4)) (outBuf x t) := by
  unfold OutPart
  iintro ⟨%f, %hf, H⟩
  iapply (Entails.of_eq (pointsTo_congr fun i hi => hf i hi (i 1).isLt)) $$ H

/-- The indices one channel's store covers. -/
theorem mem_store (s m : ℕ) (off : Fin 5 → ℕ) (hb) (e : off = ![s, m, 0, 0, 0]) (i : S4x4x128x8x128.Idx) :
    i ∈ (Rect.unit (s := S4x4x128x8x128) off S1x1x128x8x128.size hb).set ↔ (i 0).val = s ∧ (i 1).val = m := by
  subst e
  rw [Rect.mem_set_unit]
  constructor
  · intro hi
    have h0 := hi 0; have h1 := hi 1
    simp at h0 h1
    omega
  · intro hi a
    have h2 := (i 2).isLt; have h3 := (i 3).isLt; have h4 := (i 4).isLt
    fin_cases a <;> simp at * <;> omega

/-- The load that precedes each store reads the channel's old contents, which nothing uses. -/
theorem wp_load_out (x : XArr F) (c : Dev nD) (t : ℕ) (m : Fin 4) (j : ℕ) (hj : m.val = j) (off : Fin 5 → ℕ) (hb) (e : off = ![t % 4, m.val, 0, 0, 0])
    (hl) (Q : (S1x1x128x8x128.Idx → Elt F .f32) → sProp 𝕄) :
    OutPart x c t j ⊢ iprop((∀ v, OutPart x c t j -∗ Q v)
      -∗ wp frame (wpE (defs₀ (F := F)) Variants.none (c : Thread nD τ) none) Set.univ
          (Prog.lift (.load mO (Rect.unit (s := S4x4x128x8x128) off S1x1x128x8x128.size hb).toLoadRect hl)) Q) := by
  subst hj
  unfold OutPart
  have hS : (mO.access (Rect.unit (s := S4x4x128x8x128) off S1x1x128x8x128.size hb)).set ⊆ OS (t % 4) := by
    refine (View.set_slice_whole _ _).subset.trans fun i hi => ?_
    exact mem_OS.mpr ((mem_store _ _ off hb e i).mp hi).1
  iintro ⟨%f, %hf, H⟩ Hk
  iapply (wp_load_rect Variants.none (c : Thread nD τ) none Set.univ (m := mO) (f := f) hS) $$ H
  iintro H
  rw [wp_ret]
  imodintro
  iapply Hk
  iexists f
  isplitr
  · ipureintro; exact hf
  iexact H

/-- A STORE of channel `m`: one channel more is in place. -/
theorem wp_store_out (x : XArr F) (c : Dev nD) (t : ℕ) (m : Fin 4) (j : ℕ) (hj : m.val = j) (off : Fin 5 → ℕ) (hb) (e : off = ![t % 4, m.val, 0, 0, 0])
    (w : S1x1x128x8x128.Idx → Elt F .f32) (hw : ∀ r g l, w (ix5 0 0 r g l) = stored x t m r g l)
    (h1 h2) (Q : PUnit → sProp 𝕄) :
    OutPart x c t j ⊢ iprop((OutPart x c t (j + 1) -∗ Q ⟨⟩)
      -∗ wp frame (wpE (defs₀ (F := F)) Variants.none (c : Thread nD τ) none) Set.univ
          (Prog.lift (.store mO (Rect.unit (s := S4x4x128x8x128) off S1x1x128x8x128.size hb) w Finset.univ h1 h2)) Q) := by
  subst hj
  unfold OutPart
  have hset : (mO.access (Rect.unit (s := S4x4x128x8x128) off S1x1x128x8x128.size hb)).setOn Finset.univ
      = (Rect.unit (s := S4x4x128x8x128) off S1x1x128x8x128.size hb).set := View.set_slice_whole _ _
  have hS : (mO.access (Rect.unit (s := S4x4x128x8x128) off S1x1x128x8x128.size hb)).setOn Finset.univ ⊆ OS (t % 4) := by
    refine hset.subset.trans fun i hi => ?_
    exact mem_OS.mpr ((mem_store _ _ off hb e i).mp hi).1
  iintro ⟨%f, %hf, H⟩ Hk
  iapply (wp_store Variants.none (c : Thread nD τ) none Set.univ (m := mO) (f := f) hS) $$ H
  iintro H
  rw [wp_ret]
  imodintro
  iapply Hk
  iexists ((mO.access (Rect.unit (s := S4x4x128x8x128) off S1x1x128x8x128.size hb)).write (Elt F) f w Finset.univ)
  isplitr
  · ipureintro
    intro i hi him
    by_cases hm : (i 1).val = m.val
    · have hin : i ∈ (Rect.unit (s := S4x4x128x8x128) off S1x1x128x8x128.size hb).set :=
        (mem_store _ _ off hb e i).mpr ⟨mem_OS.mp hi, hm⟩
      obtain ⟨z, -, rfl⟩ := Finset.mem_map.mp (hset.symm ▸ hin)
      refine (View.write_emb_of_mem (M := Finset.univ) _ _ (Finset.mem_univ z)).trans ?_
      subst e
      obtain ⟨r, g, l, rfl⟩ : ∃ r g l, z = ix5 (n0 := 1) (n1 := 1) (n2 := 128) (n3 := 8) (n4 := 128) 0 0 r g l := by
        refine ⟨z 2, z 3, z 4, ?_⟩
        funext a
        fin_cases a
        · exact Subsingleton.elim (α := Fin 1) _ _
        · exact Subsingleton.elim (α := Fin 1) _ _
        all_goals rfl
      refine (hw r g l).trans ?_
      show _ = outBuf x t ((Rect.unit (s := S4x4x128x8x128) _ S1x1x128x8x128.size hb).emb _)
      unfold stored outBuf
      congr 1
      simp [Rect.emb_apply]
    · have hnot : i ∉ (mO.access (Rect.unit (s := S4x4x128x8x128) off S1x1x128x8x128.size hb)).setOn Finset.univ := fun h =>
        hm ((mem_store _ _ off hb e i).mp (hset ▸ h)).2
      refine (View.write_of_not_mem _ _ _ hnot).trans (hf i hi ?_)
      omega
  iexact H

end Cert.Unshuffle

end
-- ==== Proof.Offsets.lean ====
/-
  Where the kernel's accesses go, in closed form: the offsets of its transfers out of the output scratch and the two
  conditions of a trip of its loop, each a function of the trip's number.
-/
module

public import proofs.«01_k».proof.Proof.Gen.KernelIdeal.Skeleton

@[expose] public section

namespace Cert.Unshuffle

open Cert.KernelIdeal Cert.KernelIdeal.Gen
open Idealize.ShloMosaic Idealize.ShloMosaic.TcCoe Idealize.ShloMosaic.Tactic

/-- A trip's number is a step's. -/
theorem trips_eq : k0_t1_loop.trips = 256 := by decide +kernel

/-- A transfer in is issued while there is a step three ahead. -/
theorem cond1_iff : ∀ k : Fin k0_t1_loop.trips, k0_cond1 k = 1#1 ↔ k.val + 3 < 256 := by decide +kernel
/-- A transfer out is waited for from the fifth step on. -/
theorem cond2_iff : ∀ k : Fin k0_t1_loop.trips, k0_cond2 k = 1#1 ↔ 4 ≤ k.val := by decide +kernel

theorem off19_eq : ∀ (k : Fin k0_t1_loop.trips) (r : Fin 2),
    k0_off19 k (BitVec.ofNat 32 (64 * r.val)) = ![k.val / 8, 0, k.val % 8 * 128 + 64 * r.val, 0, 0] := by decide +kernel
theorem off22_eq : ∀ (k : Fin k0_t1_loop.trips) (r : Fin 2),
    k0_off22 k (BitVec.ofNat 32 (64 * r.val)) = ![k.val / 8, 1, k.val % 8 * 128 + 64 * r.val, 0, 0] := by decide +kernel
theorem off25_eq : ∀ (k : Fin k0_t1_loop.trips) (r : Fin 2),
    k0_off25 k (BitVec.ofNat 32 (64 * r.val)) = ![k.val / 8, 2, k.val % 8 * 128 + 64 * r.val, 0, 0] := by decide +kernel
theorem off28_eq : ∀ (k : Fin k0_t1_loop.trips) (r : Fin 2),
    k0_off28 k (BitVec.ofNat 32 (64 * r.val)) = ![k.val / 8, 3, k.val % 8 * 128 + 64 * r.val, 0, 0] := by decide +kernel

/-- The input rows a trip's transfers in read: those of the step three ahead. -/
theorem off3_eq (k : Fin k0_t1_loop.trips) (r : Fin 4) :
    k0_off3 k (BitVec.ofNat 32 (64 * r.val)) = ![256 * (k.val + 3) + 64 * r.val, 0, 0] := by
  rw [k0_off3_eq, show 256 * k.val + 64 * r.val + 768 = 256 * (k.val + 3) + 64 * r.val by omega]

end Cert.Unshuffle

end
-- ==== Proof.Trip.lean ====
/-
  One trip of the kernel's loop. What is held before trip `t`: the transfers in of steps `t`, `t+1`, `t+2` in flight, the
  fourth slot free; the transfers out of the last four steps in flight; the input rows of the steps already consumed and
  of those not yet fetched; the output rows already final and those still as they were found. One trip takes this from
  `t` to `t+1`.
-/
module

public import proofs.«01_k».proof.Proof.Compute
public import proofs.«01_k».proof.Proof.Offsets
public import proofs.«01_k».proof.Proof.Gen.KernelIdeal.Loops

@[expose] public section

noncomputable section

namespace Cert.Unshuffle

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A program that only returns: what is to hold of the result. -/
theorem wp_done {β : Type} (c : Dev nD) (b : β) (Q : β → sProp 𝕄) :
    Q b ⊢ wp frame (wpE (defs₀ (F := F)) Variants.none (c : Thread nD τ) none) Set.univ
      (pure b : Prog (TpuEff nD τ sig (Elt F) Λ₀ .tc) β) Q := by
  rw [show (pure b : Prog (TpuEff nD τ sig (Elt F) Λ₀ .tc) β) = Prog.ret b from rfl, wp_ret]
  iintro H
  imodintro
  iexact H

/-! ## Moving one step's rows -/

theorem x_take (c : Dev nD) (t : ℕ) (x : XArr F) :
    ptX c (XFrom t) x ⊢ iprop(ptX c (XS t) x ∗ ptX c (XFrom (t + 1)) x) :=
  (Entails.of_eq (by rw [XFrom_succ])).trans (pointsTo_union (XFrom_disj t)).1
theorem x_put (c : Dev nD) (t : ℕ) (x : XArr F) :
    iprop(ptX c (XBelow t) x ∗ ptX c (XS t) x) ⊢ ptX c (XBelow (t + 1)) x :=
  (pointsTo_union (XBelow_disj t)).2.trans (Entails.of_eq (by rw [XBelow_succ]))
theorem y_take (c : Dev nD) (t : ℕ) (y : YArr F) :
    ptY c (YFrom t) y ⊢ iprop(ptY c (YS t) y ∗ ptY c (YFrom (t + 1)) y) :=
  (Entails.of_eq (by rw [YFrom_succ])).trans (pointsTo_union (YFrom_disj t)).1
theorem y_put (c : Dev nD) (t : ℕ) (y : YArr F) :
    iprop(ptY c (YBelow t) y ∗ ptY c (YS t) y) ⊢ ptY c (YBelow (t + 1)) y :=
  (pointsTo_union (YBelow_disj t)).2.trans (Entails.of_eq (by rw [YBelow_succ]))

/-! ## What is held between trips -/

/-- A free slot of the input scratch: its semaphore at zero, any contents. -/
def InIdle (c : Dev nD) (t : ℕ) : sProp 𝕄 :=
  iprop(semVal ((c : Thread nD τ), SemLoc.dma (inSem t)) 0 ∗ ∃ f : BArr F, ptB c (BS (t % 4)) f)
/-- A free slot of the output scratch. -/
def OutIdle (c : Dev nD) (t : ℕ) : sProp 𝕄 :=
  iprop(semVal ((c : Thread nD τ), SemLoc.dma (outSem t)) 0 ∗ ∃ f : OArr F, ptO c (OS (t % 4)) f)

/-- The slot step `t` is fetched into: the step's transfers in flight, or free when there is no such step. -/
def InSt (x : XArr F) (c : Dev nD) (t : ℕ) : sProp 𝕄 := if t < 256 then InIssued x c t 4 else InIdle c t
/-- The slot step `t` is to store to: the transfers of the step four before it in flight, or free when there is none. -/
def OutSt (x : XArr F) (y : YArr F) (c : Dev nD) (t : ℕ) : sProp 𝕄 :=
  if 4 ≤ t then OutIssued x y c (t - 4) 8 else OutIdle c t

/-- Free slots are named modulo four. -/
theorem inIdle_congr (c : Dev nD) (s t : ℕ) (h : s % 4 = t % 4) : (InIdle c s : sProp 𝕄) = InIdle c t := by
  unfold InIdle
  rw [show inSem s = inSem t by simp [inSem, h], h]

/-- What is held before trip `t`. -/
def Inv (x : XArr F) (y : YArr F) (c : Dev nD) (t : ℕ) : sProp 𝕄 :=
  iprop(InSt x c t ∗ InSt x c (t + 1) ∗ InSt x c (t + 2) ∗ InIdle c (t + 3)
    ∗ OutSt x y c t ∗ OutSt x y c (t + 1) ∗ OutSt x y c (t + 2) ∗ OutSt x y c (t + 3)
    ∗ ptX c (XBelow t) x ∗ ptX c (XFrom (t + 3)) x
    ∗ ptY c (YBelow (t - 4)) (outArr x) ∗ ptY c (YFrom t) y ∗ Owes c)

/-- Free slots are named modulo four. -/
theorem outIdle_congr (c : Dev nD) (s t : ℕ) (h : s % 4 = t % 4) : (OutIdle c s : sProp 𝕄) = OutIdle c t := by
  unfold OutIdle
  rw [show outSem s = outSem t by simp [outSem, h], h]

/-- A free slot and the step's input rows: the batch of the step's transfers in, none issued. -/
theorem fetch_open (x : XArr F) (c : Dev nD) (t : ℕ) :
    iprop(InIdle c t ∗ ptX c (XFrom t) x) ⊢ (|={Set.univ}=> iprop(InIssued x c t 0 ∗ ptX c (XFrom (t + 1)) x) : sProp 𝕄) := by
  unfold InIdle
  iintro ⟨⟨Hs, ⟨%f, Hb⟩⟩, HX⟩
  icases (x_take c t x) $$ HX with ⟨Hx, HX⟩
  imod (in_open x c t f) $$ [Hs Hb Hx] with HI
  · isplitl [Hs]; · iexact Hs
    isplitl [Hb]; · iexact Hb
    iexact Hx
  imodintro
  isplitl [HI]; · iexact HI
  iexact HX

/-- The wait for the transfers out of the step four before: its output rows are final, its slot is free. -/
theorem wp_drain (x : XArr F) (y : YArr F) (c : Dev nD) (t : ℕ) (ht : 4 ≤ t)
    (offs : Fin 1 → ℕ) (hs) (es : offs = ![t % 4]) {src : Memref sig .tc .vmem S4x128x8x128 .f32}
    (offy : Fin 5 → ℕ) (hy) (h1 h2) (Q : PUnit → sProp 𝕄) :
    iprop(OutSt x y c t ∗ ptY c (YBelow (t - 4)) (outArr x) ∗ Owes c)
      ⊢ iprop((iprop(OutIdle c t ∗ ptY c (YBelow (t + 1 - 4)) (outArr x) ∗ Owes c) -∗ Q ⟨⟩)
      -∗ wp frame (wpE (defs₀ (F := F)) Variants.none (c : Thread nD τ) none) Set.univ
          (Prog.lift (.waitDma2 ((cc0_scratch3.slice (Rect.unit (s := S4) offs S1.size hs)).squeeze S_ squeezes_S1_S_).sem src
            ((mY.slice (Rect.unit (s := S32x4x1024x8x128) offy S1x4x128x8x128.size hy) (fun _ => rfl)).squeeze S4x128x8x128
              squeezes_S1x4x128x8x128_S4x128x8x128) h1 h2)) Q) := by
  have hm : (t - 4) % 4 = t % 4 := by omega
  unfold OutSt
  rw [if_pos ht]
  iintro ⟨HO, HY, HW⟩ HQ
  iapply (wp_out_wait x y c (t - 4) _ _ (es.trans (by rw [hm])) _ _) $$ [HO HW]
  · isplitl [HO]; · iexact HO
    iexact HW
  iintro ⟨Ho, Hy, Hs, HW⟩
  iapply HQ
  isplitl [Ho Hs]
  · iapply (Entails.of_eq (outIdle_congr c (t - 4) t hm))
    unfold OutIdle
    isplitl [Hs]; · iexact Hs
    iexists (outBuf x (t - 4))
    iexact Ho
  isplitl [HY Hy]
  · rw [show t + 1 - 4 = t - 4 + 1 by omega]
    iapply (y_put c (t - 4) (outArr x))
    isplitl [HY]; · iexact HY
    iexact Hy
  iexact HW

/-! ## Fetching ahead, and waiting for the output slot: the two conditional parts of a trip -/

/-- Fetch the rows of the step three ahead, when there is one. -/
def refill (k : Fin k0_t1_loop.trips) : Prog (TpuEff nD τ sig (Elt F) Λ₀ .tc) PUnit :=
  if h : k0_cond1 k = 1#1 then do
    Prog.lift (.enqueueDma (vX (k0_off3 k 0#32) (k0_off3_inb k h 0)) (.here (vB (k0_off2 k) (k0_off2_inb k h)))
      (.dma ((cc0_scratch2.slice (Rect.unit (s := S4) (k0_off1 k) S1.size (k0_off1_inb k h))).squeeze S_ squeezes_S1_S_).sem)
      (View.wordExact_bits rfl) ((View.wordExact_bits rfl).reshape _ _) ⟨Or.inl rfl, trivial⟩)
    Prog.lift (.enqueueDma (vX (k0_off3 k 64#32) (k0_off3_inb k h 1)) (.here (vB (k0_off4 k) (k0_off4_inb k h)))
      (.dma ((cc0_scratch2.slice (Rect.unit (s := S4) (k0_off1 k) S1.size (k0_off1_inb k h))).squeeze S_ squeezes_S1_S_).sem)
      (View.wordExact_bits rfl) ((View.wordExact_bits rfl).reshape _ _) ⟨Or.inl rfl, trivial⟩)
    Prog.lift (.enqueueDma (vX (k0_off3 k 128#32) (k0_off3_inb k h 2)) (.here (vB (k0_off5 k) (k0_off5_inb k h)))
      (.dma ((cc0_scratch2.slice (Rect.unit (s := S4) (k0_off1 k) S1.size (k0_off1_inb k h))).squeeze S_ squeezes_S1_S_).sem)
      (View.wordExact_bits rfl) ((View.wordExact_bits rfl).reshape _ _) ⟨Or.inl rfl, trivial⟩)
    Prog.lift (.enqueueDma (vX (k0_off3 k 192#32) (k0_off3_inb k h 3)) (.here (vB (k0_off6 k) (k0_off6_inb k h)))
      (.dma ((cc0_scratch2.slice (Rect.unit (s := S4) (k0_off1 k) S1.size (k0_off1_inb k h))).squeeze S_ squeezes_S1_S_).sem)
      (View.wordExact_bits rfl) ((View.wordExact_bits rfl).reshape _ _) ⟨Or.inl rfl, trivial⟩)
  else pure ⟨⟩

/-- Wait for the transfers out of the step four before, when there is one. -/
def drain (k : Fin k0_t1_loop.trips) : Prog (TpuEff nD τ sig (Elt F) Λ₀ .tc) PUnit :=
  if h : k0_cond2 k = 1#1 then
    Prog.lift (.waitDma2 ((cc0_scratch3.slice (Rect.unit (s := S4) (k0_off9 k) S1.size (k0_off9_inb k h))).squeeze S_ squeezes_S1_S_).sem
      ((mO.slice (Rect.unit (s := S4x4x128x8x128) (k0_off10 k) S1x4x128x8x128.size (k0_off10_inb k h)) (fun _ => rfl)).squeeze S4x128x8x128
        squeezes_S1x4x128x8x128_S4x128x8x128)
      ((mY.slice (Rect.unit (s := S32x4x1024x8x128) ![0, 0, 0, 0, 0] S1x4x128x8x128.size inb_S32x4x1024x8x128_S1x4x128x8x128_0_0_0_0_0)
        (fun _ => rfl)).squeeze S4x128x8x128 squeezes_S1x4x128x8x128_S4x128x8x128)
      ((View.wordExact_bits rfl).reshape _ _) ((View.wordExact_bits rfl).reshape _ _))
  else pure ⟨⟩

/-- The first part of a trip: fetch ahead, wait for the step's rows, wait for its output slot, load. -/
theorem part1_eq (k : Fin k0_t1_loop.trips) :
    k0_part1 (F := F) mX (Memref.isWhole_whole _) mY (Memref.isWhole_whole _) mB (Memref.isWhole_whole _) mO (Memref.isWhole_whole _)
        cc0_scratch2 cc0_scratch3 0#32 1#32 k
      = (do
        refill k
        Prog.lift (.waitDma2 ((cc0_scratch2.slice (Rect.unit (s := S4) (k0_off7 k) S1.size (k0_off7_inb k))).squeeze S_ squeezes_S1_S_).sem
          (mX.slice (Rect.unit (s := S65536x16x128) ![0, 0, 0] S256x16x128.size inb_S65536x16x128_S256x16x128_0_0_0) (fun _ => rfl))
          ((mB.slice (Rect.unit (s := S4x256x16x128) (k0_off8 k) S1x256x16x128.size (k0_off8_inb k)) (fun _ => rfl)).squeeze S256x16x128
            squeezes_S1x256x16x128_S256x16x128)
          (View.wordExact_bits rfl) ((View.wordExact_bits rfl).reshape _ _))
        drain k
        let v ← Prog.lift (.load mB (⟨k0_off11 k, S1x128x8x128.size, ![1, 2, 2, 1], (k0_off11_inb k)⟩ : LoadRect S4x256x16x128)
          (View.loadsAt_vmem h_S1x128x8x128))
        pure ⟨Scf.iv 0#32 1#32 k, Scalar.remsi (Scf.iv 0#32 1#32 k) 4#32, k0_pay1, k0_pay2 v⟩) := by
  rw [k0_part1_eq_skeleton]
  unfold k0_part1_skel refill drain
  by_cases h1 : k0_cond1 k = 1#1 <;> by_cases h2 : k0_cond2 k = 1#1 <;>
    simp only [h1, h2, dif_pos, dite_false] <;> rfl

theorem refill_spec (x : XArr F) (c : Dev nD) (k : Fin k0_t1_loop.trips) :
    iprop(InIdle c (k.val + 3) ∗ ptX c (XFrom (k.val + 3)) x)
      ⊢ wp frame (wpE (defs₀ (F := F)) Variants.none (c : Thread nD τ) none) Set.univ (refill k)
        (fun _ => iprop(InSt x c (k.val + 3) ∗ ptX c (XFrom (k.val + 4)) x)) := by
  unfold refill InSt
  by_cases h : k0_cond1 k = 1#1
  · have hk : k.val + 3 < 256 := (cond1_iff k).mp h
    rw [dif_pos h, if_pos hk]
    simp only [wp_bind]
    iintro H
    imod (fetch_open x c (k.val + 3)) $$ H with ⟨HI, HX⟩
    iapply (wp_in x c (k.val + 3) hk 0 0 rfl _ _ (off3_eq k 0) _ _ (k0_off2_eq k) _ _ (k0_off1_eq k)) $$ HI
    iintro HI
    iapply (wp_in x c (k.val + 3) hk 1 1 rfl _ _ (off3_eq k 1) _ _ (k0_off4_eq k) _ _ (k0_off1_eq k)) $$ HI
    iintro HI
    iapply (wp_in x c (k.val + 3) hk 2 2 rfl _ _ (off3_eq k 2) _ _ (k0_off5_eq k) _ _ (k0_off1_eq k)) $$ HI
    iintro HI
    iapply (wp_in x c (k.val + 3) hk 3 3 rfl _ _ (off3_eq k 3) _ _ (k0_off6_eq k) _ _ (k0_off1_eq k)) $$ HI
    iintro HI
    isplitl [HI]; · iexact HI
    iexact HX
  · have hk : ¬ k.val + 3 < 256 := fun hk => h ((cond1_iff k).mpr hk)
    rw [dif_neg h, if_neg hk]
    iintro ⟨HI, HX⟩
    iapply (wp_done c ⟨⟩)
    isplitl [HI]; · iexact HI
    icases (x_take c (k.val + 3) x) $$ HX with ⟨-, HX⟩
    iexact HX

theorem drain_spec (x : XArr F) (y : YArr F) (c : Dev nD) (k : Fin k0_t1_loop.trips) :
    iprop(OutSt x y c k.val ∗ ptY c (YBelow (k.val - 4)) (outArr x) ∗ Owes c)
      ⊢ wp frame (wpE (defs₀ (F := F)) Variants.none (c : Thread nD τ) none) Set.univ (drain k)
        (fun _ => iprop(OutIdle c k.val ∗ ptY c (YBelow (k.val + 1 - 4)) (outArr x) ∗ Owes c)) := by
  unfold drain
  by_cases h : k0_cond2 k = 1#1
  · rw [dif_pos h]
    iintro H
    iapply (wp_drain x y c k.val ((cond2_iff k).mp h) _ _ (k0_off9_eq k) _ _) $$ H
    iintro H
    iexact H
  · have hk : ¬ 4 ≤ k.val := fun hk => h ((cond2_iff k).mpr hk)
    rw [dif_neg h, show k.val + 1 - 4 = k.val - 4 by omega]
    unfold OutSt
    rw [if_neg hk]
    iintro H
    iapply (wp_done c ⟨⟩)
    iexact H

/-! ## A trip, part by part -/

/-- Fetching ahead, waiting for the step's rows and for its output slot, and the first load. -/
theorem part1_spec (x : XArr F) (y : YArr F) (c : Dev nD) (k : Fin k0_t1_loop.trips) :
    iprop(InSt x c k.val ∗ InIdle c (k.val + 3) ∗ OutSt x y c k.val
        ∗ ptX c (XBelow k.val) x ∗ ptX c (XFrom (k.val + 3)) x ∗ ptY c (YBelow (k.val - 4)) (outArr x) ∗ Owes c)
      ⊢ wp frame (wpE (defs₀ (F := F)) Variants.none (c : Thread nD τ) none) Set.univ
        (k0_part1 mX (Memref.isWhole_whole _) mY (Memref.isWhole_whole _) mB (Memref.isWhole_whole _) mO (Memref.isWhole_whole _)
          cc0_scratch2 cc0_scratch3 0#32 1#32 k)
        (fun r => iprop(⌜r.2.2.1 = k0_pay1 ∧ r.2.2.2 = k0_pay2 (loaded x k.val 0 0)⌝
          ∗ ptB c (BS (k.val % 4)) (inBuf x k.val) ∗ semVal ((c : Thread nD τ), SemLoc.dma (inSem k.val)) 0
          ∗ InSt x c (k.val + 3) ∗ OutIdle c k.val
          ∗ ptX c (XBelow (k.val + 1)) x ∗ ptX c (XFrom (k.val + 4)) x ∗ ptY c (YBelow (k.val + 1 - 4)) (outArr x) ∗ Owes c)) := by
  have hk : k.val < 256 := lt_of_lt_of_eq k.isLt trips_eq
  rw [part1_eq, show InSt x c k.val = InIssued x c k.val 4 from if_pos hk]
  simp only [wp_bind]
  iintro ⟨HS, HI, HO, HX, HF, HY, HW⟩
  ihave HR := (refill_spec x c k) $$ [HI HF]
  · isplitl [HI]; · iexact HI
    iexact HF
  iapply (wp_wand frame (wpE (defs₀ (F := F)) Variants.none (c : Thread nD τ) none) Set.univ) $$ HR
  iintro %_ ⟨HI, HF⟩
  iapply (wp_in_wait x c k.val _ _ (k0_off7_eq k) _ _) $$ [HS HW]
  · isplitl [HS]; · iexact HS
    iexact HW
  iintro ⟨Hb, Hx, Hs, HW⟩
  ihave HR := (drain_spec x y c k) $$ [HO HY HW]
  · isplitl [HO]; · iexact HO
    isplitl [HY]; · iexact HY
    iexact HW
  iapply (wp_wand frame (wpE (defs₀ (F := F)) Variants.none (c : Thread nD τ) none) Set.univ) $$ HR
  iintro %_ ⟨HO, HY, HW⟩
  iapply (wp_load_in x c k.val 0 0 _ _ (k0_off11_eq k)) $$ Hb
  iintro Hb
  iapply (wp_done c)
  isplitr
  · ipureintro
    exact ⟨rfl, rfl⟩
  isplitl [Hb]; · iexact Hb
  isplitl [Hs]; · iexact Hs
  isplitl [HI]; · iexact HI
  isplitl [HO]; · iexact HO
  isplitl [HX Hx]
  · iapply (x_put c k.val x)
    isplitl [HX]; · iexact HX
    iexact Hx
  isplitl [HF]; · iexact HF
  isplitl [HY]; · iexact HY
  iexact HW

/-- The first two channels stored, and the second pair loaded. -/
theorem part2_spec (x : XArr F) (c : Dev nD) (k : Fin k0_t1_loop.trips) (v : BitVec 32) :
    iprop(ptB c (BS (k.val % 4)) (inBuf x k.val) ∗ OutPart x c k.val 0)
      ⊢ wp frame (wpE (defs₀ (F := F)) Variants.none (c : Thread nD τ) none) Set.univ
        (k0_part2 mX (Memref.isWhole_whole _) mY (Memref.isWhole_whole _) mB (Memref.isWhole_whole _) mO (Memref.isWhole_whole _)
          cc0_scratch2 cc0_scratch3 k v k0_pay1 (k0_pay2 (loaded x k.val 0 0)))
        (fun r => iprop(⌜r.1 = k0_pay7 (loaded x k.val 1 0) ∧ r.2.1 = k0_pay8 (loaded x k.val 1 1) ∧ r.2.2 = 0#32⌝
          ∗ ptB c (BS (k.val % 4)) (inBuf x k.val) ∗ OutPart x c k.val 2)) := by
  rw [k0_part2_eq_skeleton]
  unfold k0_part2_skel
  simp only [wp_bind]
  iintro ⟨Hb, HO⟩
  iapply (wp_load_in x c k.val 0 1 _ _ (k0_off12_eq k)) $$ Hb
  iintro Hb
  iapply (wp_load_out x c k.val 0 0 rfl _ _ (k0_off13_eq k)) $$ HO
  iintro %_ HO
  iapply (wp_store_out x c k.val 0 0 rfl _ _ (k0_off13_eq k) _ (stored_even x k.val 0 0 rfl)) $$ HO
  iintro HO
  iapply (wp_load_out x c k.val 1 1 rfl _ _ (k0_off14_eq k)) $$ HO
  iintro %_ HO
  iapply (wp_store_out x c k.val 1 1 rfl _ _ (k0_off14_eq k) _ (stored_odd x k.val 0 1 rfl)) $$ HO
  iintro HO
  iapply (wp_load_in x c k.val 1 0 _ _ (k0_off15_eq k)) $$ Hb
  iintro Hb
  iapply (wp_load_in x c k.val 1 1 _ _ (k0_off16_eq k)) $$ Hb
  iintro Hb
  iapply (wp_done c)
  isplitr
  · ipureintro
    exact ⟨rfl, rfl, rfl⟩
  isplitl [Hb]; · iexact Hb
  iexact HO

/-- The last two channels stored. -/
theorem part3_spec (x : XArr F) (c : Dev nD) (k : Fin k0_t1_loop.trips) (u v : BitVec 32) :
    OutPart x c k.val 2
      ⊢ wp frame (wpE (defs₀ (F := F)) Variants.none (c : Thread nD τ) none) Set.univ
        (k0_part3 mX (Memref.isWhole_whole _) mY (Memref.isWhole_whole _) mB (Memref.isWhole_whole _) mO (Memref.isWhole_whole _)
          cc0_scratch2 cc0_scratch3 k u v k0_pay1 (k0_pay7 (loaded x k.val 1 0)) (k0_pay8 (loaded x k.val 1 1)) 0#32)
        (fun _ => OutPart x c k.val 4) := by
  rw [k0_part3_eq_skeleton]
  unfold k0_part3_skel
  simp only [wp_bind]
  iintro HO
  iapply (wp_load_out x c k.val 2 2 rfl _ _ (k0_off17_eq k)) $$ HO
  iintro %_ HO
  iapply (wp_store_out x c k.val 2 2 rfl _ _ (k0_off17_eq k) _
    (fun r g l => (congrFun (pay11_eq _ _) _).trans (stored_even x k.val 1 2 rfl r g l))) $$ HO
  iintro HO
  iapply (wp_load_out x c k.val 3 3 rfl _ _ (k0_off18_eq k)) $$ HO
  iintro %_ HO
  iapply (wp_store_out x c k.val 3 3 rfl _ _ (k0_off18_eq k) _
    (fun r g l => (congrFun (pay12_eq _ _) _).trans (stored_odd x k.val 1 3 rfl r g l))) $$ HO
  iintro HO
  iapply (wp_done c)
  iexact HO

/-- The first channel's two transfers out. -/
theorem part4_spec (x : XArr F) (y : YArr F) (c : Dev nD) (k : Fin k0_t1_loop.trips) (u v w : BitVec 32) (b : BitVec 1) :
    OutIssued x y c k.val 0
      ⊢ wp frame (wpE (defs₀ (F := F)) Variants.none (c : Thread nD τ) none) Set.univ
        (k0_part4 mX (Memref.isWhole_whole _) mY (Memref.isWhole_whole _) mB (Memref.isWhole_whole _) mO (Memref.isWhole_whole _)
          cc0_scratch2 cc0_scratch3 k u v w b)
        (fun _ => OutIssued x y c k.val 2) := by
  rw [k0_part4_eq_skeleton]
  unfold k0_part4_skel
  simp only [wp_bind]
  iintro HO
  iapply (wp_out x y c k.val 0 0 rfl _ _ (k0_off20_eq k) _ _ (off19_eq k 0) _ _ (k0_off7_eq k)) $$ HO
  iintro HO
  iapply (wp_out x y c k.val 1 1 rfl _ _ (k0_off21_eq k) _ _ (off19_eq k 1) _ _ (k0_off7_eq k)) $$ HO
  iintro HO
  iapply (wp_done c)
  iexact HO

/-- The next three transfers out. -/
theorem part5_spec (x : XArr F) (y : YArr F) (c : Dev nD) (k : Fin k0_t1_loop.trips) (u : BitVec 32) :
    OutIssued x y c k.val 2
      ⊢ wp frame (wpE (defs₀ (F := F)) Variants.none (c : Thread nD τ) none) Set.univ
        (k0_part5 mX (Memref.isWhole_whole _) mY (Memref.isWhole_whole _) mB (Memref.isWhole_whole _) mO (Memref.isWhole_whole _)
          cc0_scratch2 cc0_scratch3 k u)
        (fun _ => OutIssued x y c k.val 5) := by
  rw [k0_part5_eq_skeleton]
  unfold k0_part5_skel
  simp only [wp_bind]
  iintro HO
  iapply (wp_out x y c k.val 2 2 rfl _ _ (k0_off23_eq k) _ _ (off22_eq k 0) _ _ (k0_off7_eq k)) $$ HO
  iintro HO
  iapply (wp_out x y c k.val 3 3 rfl _ _ (k0_off24_eq k) _ _ (off22_eq k 1) _ _ (k0_off7_eq k)) $$ HO
  iintro HO
  iapply (wp_out x y c k.val 4 4 rfl _ _ (k0_off26_eq k) _ _ (off25_eq k 0) _ _ (k0_off7_eq k)) $$ HO
  iintro HO
  iapply (wp_done c)
  iexact HO

/-- ONE TRIP: what is held before trip `k` becomes what is held before trip `k + 1`. -/
theorem trip_spec (x : XArr F) (y : YArr F) (c : Dev nD) (k : Fin k0_t1_loop.trips) :
    Inv x y c k.val
      ⊢ wp frame (wpE (defs₀ (F := F)) Variants.none (c : Thread nD τ) none) Set.univ
        (k0_t1_body mX (Memref.isWhole_whole _) mY (Memref.isWhole_whole _) mB (Memref.isWhole_whole _) mO (Memref.isWhole_whole _)
          cc0_scratch2 cc0_scratch3 k ())
        (fun _ => Inv x y c (k.val + 1)) := by
  unfold k0_t1_body Inv
  simp only [wp_bind]
  iintro ⟨H0, H1, H2, H3, O0, O1, O2, O3, HX, HF, HY, HR, HW⟩
  ihave HP := (part1_spec x y c k) $$ [H0 H3 O0 HX HF HY HW]
  · isplitl [H0]; · iexact H0
    isplitl [H3]; · iexact H3
    isplitl [O0]; · iexact O0
    isplitl [HX]; · iexact HX
    isplitl [HF]; · iexact HF
    isplitl [HY]; · iexact HY
    iexact HW
  iapply (wp_wand frame (wpE (defs₀ (F := F)) Variants.none (c : Thread nD τ) none) Set.univ) $$ HP
  iintro %r ⟨%hr, Hb, Hs, H3, O0, HX, HF, HY, HW⟩
  obtain ⟨a6, v89, v115, v118⟩ := r
  obtain ⟨rfl, rfl⟩ := hr
  unfold OutIdle
  icases O0 with ⟨Os, ⟨%f, Ho⟩⟩
  ihave HO := (outPart_start x c k.val f) $$ Ho
  ihave HP := (part2_spec x c k v89) $$ [Hb HO]
  · isplitl [Hb]; · iexact Hb
    iexact HO
  iapply (wp_wand frame (wpE (defs₀ (F := F)) Variants.none (c : Thread nD τ) none) Set.univ) $$ HP
  iintro %r ⟨%hr, Hb, HO⟩
  obtain ⟨v154, v157, c0⟩ := r
  obtain ⟨rfl, rfl, rfl⟩ := hr
  ihave HP := (part3_spec x c k a6 v89) $$ HO
  iapply (wp_wand frame (wpE (defs₀ (F := F)) Variants.none (c : Thread nD τ) none) Set.univ) $$ HP
  iintro %r HO
  obtain ⟨c8, v188, v199⟩ := r
  ihave Ho := (outPart_done x c k.val) $$ HO
  icases (y_take c k.val y) $$ HR with ⟨Hy, HR⟩
  imod (out_open x y c k.val) $$ [Os Ho Hy] with HO
  · isplitl [Os]; · iexact Os
    isplitl [Ho]; · iexact Ho
    iexact Hy
  ihave HP := (part4_spec x y c k a6 c8 v188 v199) $$ HO
  iapply (wp_wand frame (wpE (defs₀ (F := F)) Variants.none (c : Thread nD τ) none) Set.univ) $$ HP
  iintro %v215 HO
  ihave HP := (part5_spec x y c k v215) $$ HO
  iapply (wp_wand frame (wpE (defs₀ (F := F)) Variants.none (c : Thread nD τ) none) Set.univ) $$ HP
  iintro %_ HO
  iapply (wp_out x y c k.val 5 5 rfl _ _ (k0_off27_eq k) _ _ (off25_eq k 1) _ _ (k0_off7_eq k)) $$ HO
  iintro HO
  iapply (wp_out x y c k.val 6 6 rfl _ _ (k0_off29_eq k) _ _ (off28_eq k 0) _ _ (k0_off7_eq k)) $$ HO
  iintro HO
  iapply (wp_out x y c k.val 7 7 rfl _ _ (k0_off30_eq k) _ _ (off28_eq k 1) _ _ (k0_off7_eq k)) $$ HO
  iintro HO
  iapply (wp_done c)
  isplitl [H1]; · iexact H1
  isplitl [H2]; · iexact H2
  isplitl [H3]; · iexact H3
  isplitl [Hb Hs]
  · iapply (Entails.of_eq (inIdle_congr c k.val (k.val + 4) (Nat.add_mod_right _ _).symm))
    unfold InIdle
    isplitl [Hs]; · iexact Hs
    iexists (inBuf x k.val)
    iexact Hb
  isplitl [O1]; · iexact O1
  isplitl [O2]; · iexact O2
  isplitl [O3]; · iexact O3
  isplitl [HO]
  · iapply (Entails.of_eq (show OutIssued x y c k.val 8 = OutSt x y c (k.val + 4) from (if_pos (Nat.le_add_left 4 k.val)).symm)) $$ HO
  isplitl [HX]; · iexact HX
  isplitl [HF]; · iexact HF
  isplitl [HY]; · iexact HY
  isplitl [HR]; · iexact HR
  iexact HW

end Cert.Unshuffle

end
-- ==== Proof.Body.lean ====
/-
  The whole kernel body: the first three steps' transfers in, the loop, the waits for the last four steps' transfers out.
  From the input array at `x`, the output array at any contents and every slot free, to the input array untouched, the
  output array at `outArr x` and every slot free again.
-/
module

public import proofs.«01_k».proof.Proof.Trip

@[expose] public section

noncomputable section

namespace Cert.Unshuffle

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The slots -/

/-- Every slot of both scratch buffers free. -/
def Slots (c : Dev nD) : sProp 𝕄 :=
  iprop((InIdle c 0 ∗ InIdle c 1 ∗ InIdle c 2 ∗ InIdle c 3) ∗ OutIdle c 0 ∗ OutIdle c 1 ∗ OutIdle c 2 ∗ OutIdle c 3)

/-- All eight semaphores at zero. -/
def Zeros (c : Dev nD) : sProp 𝕄 :=
  iprop(semVal ((c : Thread nD τ), SemLoc.dma (inSem 0)) 0
    ∗ semVal ((c : Thread nD τ), SemLoc.dma (inSem 1)) 0
    ∗ semVal ((c : Thread nD τ), SemLoc.dma (inSem 2)) 0
    ∗ semVal ((c : Thread nD τ), SemLoc.dma (inSem 3)) 0
    ∗ semVal ((c : Thread nD τ), SemLoc.dma (outSem 0)) 0
    ∗ semVal ((c : Thread nD τ), SemLoc.dma (outSem 1)) 0
    ∗ semVal ((c : Thread nD τ), SemLoc.dma (outSem 2)) 0
    ∗ semVal ((c : Thread nD τ), SemLoc.dma (outSem 3)) 0)

/-- Both scratch buffers whole, each at some contents. -/
def Scratch (c : Dev nD) : sProp 𝕄 :=
  iprop((∃ f : BArr F, ptB c Finset.univ f) ∗ ∃ g : OArr F, ptO c Finset.univ g)

theorem b_split (c : Dev nD) (f : BArr F) :
    ptB c Finset.univ f ⊢ iprop(ptB c (BS 0) f ∗ ptB c (BS 1) f ∗ ptB c (BS 2) f ∗ ptB c (BS 3) f) :=
  (Entails.of_eq (by rw [BS_all])).trans ((pointsTo_union BS_disj0).1.trans (sep_mono_r
    ((pointsTo_union BS_disj1).1.trans (sep_mono_r (pointsTo_union BS_disj2).1))))
theorem o_split (c : Dev nD) (f : OArr F) :
    ptO c Finset.univ f ⊢ iprop(ptO c (OS 0) f ∗ ptO c (OS 1) f ∗ ptO c (OS 2) f ∗ ptO c (OS 3) f) :=
  (Entails.of_eq (by rw [OS_all])).trans ((pointsTo_union OS_disj0).1.trans (sep_mono_r
    ((pointsTo_union OS_disj1).1.trans (sep_mono_r (pointsTo_union OS_disj2).1))))

theorem b_join (c : Dev nD) (f0 f1 f2 f3 : BArr F) :
    iprop(ptB c (BS 0) f0 ∗ ptB c (BS 1) f1 ∗ ptB c (BS 2) f2 ∗ ptB c (BS 3) f3) ⊢ iprop(∃ f : BArr F, ptB c Finset.univ f) :=
  ((sep_mono_r ((sep_mono_r (pointsTo_join BS_disj2)).trans (pointsTo_join BS_disj1))).trans (pointsTo_join BS_disj0)).trans
    ((Entails.of_eq (by rw [BS_all])).trans (exists_intro (Φ := fun f : BArr F => ptB c Finset.univ f) _))
theorem o_join (c : Dev nD) (f0 f1 f2 f3 : OArr F) :
    iprop(ptO c (OS 0) f0 ∗ ptO c (OS 1) f1 ∗ ptO c (OS 2) f2 ∗ ptO c (OS 3) f3) ⊢ iprop(∃ f : OArr F, ptO c Finset.univ f) :=
  ((sep_mono_r ((sep_mono_r (pointsTo_join OS_disj2)).trans (pointsTo_join OS_disj1))).trans (pointsTo_join OS_disj0)).trans
    ((Entails.of_eq (by rw [OS_all])).trans (exists_intro (Φ := fun f : OArr F => ptO c Finset.univ f) _))

/-- Whole scratches and semaphores at zero: every slot free. -/
theorem slots_split (c : Dev nD) : iprop(Scratch c ∗ Zeros c) ⊢ (Slots c : sProp 𝕄) := by
  unfold Scratch Zeros Slots InIdle OutIdle
  iintro ⟨⟨⟨%f, Hb⟩, ⟨%g, Ho⟩⟩, S0, S1, S2, S3, S4, S5, S6, S7⟩
  icases (b_split c f) $$ Hb with ⟨B0, B1, B2, B3⟩
  icases (o_split c g) $$ Ho with ⟨O0, O1, O2, O3⟩
  isplitl [S0 B0 S1 B1 S2 B2 S3 B3]
  · isplitl [S0 B0]
    · isplitl [S0]; · iexact S0
      iexists f; iexact B0
    isplitl [S1 B1]
    · isplitl [S1]; · iexact S1
      iexists f; iexact B1
    isplitl [S2 B2]
    · isplitl [S2]; · iexact S2
      iexists f; iexact B2
    isplitl [S3]; · iexact S3
    iexists f; iexact B3
  isplitl [S4 O0]
  · isplitl [S4]; · iexact S4
    iexists g; iexact O0
  isplitl [S5 O1]
  · isplitl [S5]; · iexact S5
    iexists g; iexact O1
  isplitl [S6 O2]
  · isplitl [S6]; · iexact S6
    iexists g; iexact O2
  isplitl [S7]; · iexact S7
  iexists g; iexact O3

/-- Every slot free: whole scratches and semaphores at zero. -/
theorem slots_join (c : Dev nD) : (Slots c : sProp 𝕄) ⊢ iprop(Scratch c ∗ Zeros c) := by
  unfold Scratch Zeros Slots InIdle OutIdle
  iintro ⟨⟨⟨S0, ⟨%f0, B0⟩⟩, ⟨S1, ⟨%f1, B1⟩⟩, ⟨S2, ⟨%f2, B2⟩⟩, ⟨S3, ⟨%f3, B3⟩⟩⟩,
    ⟨S4, ⟨%g0, O0⟩⟩, ⟨S5, ⟨%g1, O1⟩⟩, ⟨S6, ⟨%g2, O2⟩⟩, ⟨S7, ⟨%g3, O3⟩⟩⟩
  isplitl [B0 B1 B2 B3 O0 O1 O2 O3]
  · isplitl [B0 B1 B2 B3]
    · iapply (b_join c f0 f1 f2 f3)
      isplitl [B0]; · iexact B0
      isplitl [B1]; · iexact B1
      isplitl [B2]; · iexact B2
      iexact B3
    · iapply (o_join c g0 g1 g2 g3)
      isplitl [O0]; · iexact O0
      isplitl [O1]; · iexact O1
      isplitl [O2]; · iexact O2
      iexact O3
  isplitl [S0]; · iexact S0
  isplitl [S1]; · iexact S1
  isplitl [S2]; · iexact S2
  isplitl [S3]; · iexact S3
  isplitl [S4]; · iexact S4
  isplitl [S5]; · iexact S5
  isplitl [S6]; · iexact S6
  iexact S7

/-- There is no step past the last: nothing is in flight to its slot. -/
theorem inSt_last (x : XArr F) (c : Dev nD) (t : ℕ) (ht : ¬ t < 256) : InSt x c t = InIdle c t := if_neg ht
/-- No step stored to the first four steps' slots before them. -/
theorem outSt_first (x : XArr F) (y : YArr F) (c : Dev nD) (t : ℕ) (ht : ¬ 4 ≤ t) : OutSt x y c t = OutIdle c t := if_neg ht

/-! ## The first three steps' transfers in -/

/-- Step 0 is fetched. -/
theorem part6_spec (x : XArr F) (c : Dev nD) :
    iprop(InIdle c 0 ∗ ptX c (XFrom 0) x)
      ⊢ wp frame (wpE (defs₀ (F := F)) Variants.none (c : Thread nD τ) none) Set.univ (k0_part6 mX (Memref.isWhole_whole _) mY (Memref.isWhole_whole _) mB (Memref.isWhole_whole _) mO (Memref.isWhole_whole _)
          cc0_scratch2 cc0_scratch3)
        (fun _ => iprop(InSt x c 0 ∗ ptX c (XFrom 1) x)) := by
  rw [k0_part6_eq_skeleton, show InSt x c 0 = InIssued x c 0 4 from if_pos (by decide)]
  unfold k0_part6_skel
  simp only [wp_bind]
  iintro H
  imod (fetch_open x c 0) $$ H with ⟨HI, HX⟩
  iapply (wp_in x c 0 (by decide) 0 0 rfl _ _ rfl _ _ rfl _ _ rfl) $$ HI
  iintro HI
  iapply (wp_in x c 0 (by decide) 1 1 rfl _ _ rfl _ _ rfl _ _ rfl) $$ HI
  iintro HI
  iapply (wp_in x c 0 (by decide) 2 2 rfl _ _ rfl _ _ rfl _ _ rfl) $$ HI
  iintro HI
  iapply (wp_in x c 0 (by decide) 3 3 rfl _ _ rfl _ _ rfl _ _ rfl) $$ HI
  iintro HI
  iapply (wp_done c ⟨⟩)
  isplitl [HI]; · iexact HI
  iexact HX

/-- Step 1 is fetched. -/
theorem part7_spec (x : XArr F) (c : Dev nD) :
    iprop(InIdle c 1 ∗ ptX c (XFrom 1) x)
      ⊢ wp frame (wpE (defs₀ (F := F)) Variants.none (c : Thread nD τ) none) Set.univ (k0_part7 mX (Memref.isWhole_whole _) mY (Memref.isWhole_whole _) mB (Memref.isWhole_whole _) mO (Memref.isWhole_whole _)
          cc0_scratch2 cc0_scratch3)
        (fun _ => iprop(InSt x c 1 ∗ ptX c (XFrom 2) x)) := by
  rw [k0_part7_eq_skeleton, show InSt x c 1 = InIssued x c 1 4 from if_pos (by decide)]
  unfold k0_part7_skel
  simp only [wp_bind]
  iintro H
  imod (fetch_open x c 1) $$ H with ⟨HI, HX⟩
  iapply (wp_in x c 1 (by decide) 0 0 rfl _ _ rfl _ _ rfl _ _ rfl) $$ HI
  iintro HI
  iapply (wp_in x c 1 (by decide) 1 1 rfl _ _ rfl _ _ rfl _ _ rfl) $$ HI
  iintro HI
  iapply (wp_in x c 1 (by decide) 2 2 rfl _ _ rfl _ _ rfl _ _ rfl) $$ HI
  iintro HI
  iapply (wp_in x c 1 (by decide) 3 3 rfl _ _ rfl _ _ rfl _ _ rfl) $$ HI
  iintro HI
  iapply (wp_done c ⟨⟩)
  isplitl [HI]; · iexact HI
  iexact HX

/-- Step 2 is fetched, and the loop runs. -/
theorem part8_spec (x : XArr F) (y : YArr F) (c : Dev nD) :
    iprop(InSt x c 0 ∗ InSt x c 1 ∗ InIdle c 2 ∗ InIdle c 3
        ∗ OutSt x y c 0 ∗ OutSt x y c 1 ∗ OutSt x y c 2 ∗ OutSt x y c 3
        ∗ ptX c (XBelow 0) x ∗ ptX c (XFrom 2) x ∗ ptY c (YBelow 0) (outArr x) ∗ ptY c (YFrom 0) y ∗ Owes c)
      ⊢ wp frame (wpE (defs₀ (F := F)) Variants.none (c : Thread nD τ) none) Set.univ (k0_part8 mX (Memref.isWhole_whole _) mY (Memref.isWhole_whole _) mB (Memref.isWhole_whole _) mO (Memref.isWhole_whole _)
          cc0_scratch2 cc0_scratch3)
        (fun _ => Inv x y c 256) := by
  rw [k0_part8_eq_skeleton]
  unfold k0_part8_skel
  simp only [wp_bind]
  iintro ⟨H0, H1, H2, H3, O0, O1, O2, O3, HX, HF, HY, HR, HW⟩
  imod (fetch_open x c 2) $$ [H2 HF] with ⟨HI, HF⟩
  · isplitl [H2]; · iexact H2
    iexact HF
  iapply (wp_in x c 2 (by decide) 0 0 rfl _ _ rfl _ _ rfl _ _ rfl) $$ HI
  iintro HI
  iapply (wp_in x c 2 (by decide) 1 1 rfl _ _ rfl _ _ rfl _ _ rfl) $$ HI
  iintro HI
  iapply (wp_in x c 2 (by decide) 2 2 rfl _ _ rfl _ _ rfl _ _ rfl) $$ HI
  iintro HI
  iapply (wp_in x c 2 (by decide) 3 3 rfl _ _ rfl _ _ rfl _ _ rfl) $$ HI
  iintro HI
  iapply (Scf.wp_for frame (wpE (defs₀ (F := F)) Variants.none (c : Thread nD τ) none) Set.univ k0_t1_loop.lb k0_t1_loop.ub k0_t1_loop.st
    k0_t1_ok ⟨⟩ _ (fun n _ => Inv x y c n) (fun k _ => trip_spec x y c k))
  isplitl
  · unfold Inv
    isplitl [H0]; · iexact H0
    isplitl [H1]; · iexact H1
    isplitl [HI]
    · iapply (Entails.of_eq (show InIssued x c 2 4 = InSt x c 2 from (if_pos (by decide)).symm)) $$ HI
    isplitl [H3]; · iexact H3
    isplitl [O0]; · iexact O0
    isplitl [O1]; · iexact O1
    isplitl [O2]; · iexact O2
    isplitl [O3]; · iexact O3
    isplitl [HX]; · iexact HX
    isplitl [HF]; · iexact HF
    isplitl [HY]; · iexact HY
    isplitl [HR]; · iexact HR
    iexact HW
  iintro %_ HI
  iapply (wp_done c ⟨⟩)
  iapply (Entails.of_eq (show Inv x y c (Scf.trips k0_t1_loop.lb k0_t1_loop.ub k0_t1_loop.st) = Inv x y c 256 by
    rw [show Scf.trips k0_t1_loop.lb k0_t1_loop.ub k0_t1_loop.st = 256 from trips_eq])) $$ HI

/-! ## The last four steps' waits -/

/-- The first three of them. -/
theorem part9_spec (x : XArr F) (y : YArr F) (c : Dev nD) :
    iprop(OutSt x y c 256 ∗ OutSt x y c 257 ∗ OutSt x y c 258 ∗ ptY c (YBelow 252) (outArr x) ∗ Owes c)
      ⊢ wp frame (wpE (defs₀ (F := F)) Variants.none (c : Thread nD τ) none) Set.univ (k0_part9 mX (Memref.isWhole_whole _) mY (Memref.isWhole_whole _) mB (Memref.isWhole_whole _) mO (Memref.isWhole_whole _)
          cc0_scratch2 cc0_scratch3)
        (fun _ => iprop(OutIdle c 256 ∗ OutIdle c 257 ∗ OutIdle c 258 ∗ ptY c (YBelow 255) (outArr x) ∗ Owes c)) := by
  rw [k0_part9_eq_skeleton]
  unfold k0_part9_skel
  simp only [wp_bind]
  iintro ⟨O0, O1, O2, HY, HW⟩
  iapply (wp_drain x y c 256 (by decide) _ _ (k0_off31_eq 0) _ _) $$ [O0 HY HW]
  · isplitl [O0]; · iexact O0
    isplitl [HY]; · iexact HY
    iexact HW
  iintro ⟨O0, HY, HW⟩
  iapply (wp_drain x y c 257 (by decide) _ _ (k0_off31_eq 1) _ _) $$ [O1 HY HW]
  · isplitl [O1]; · iexact O1
    isplitl [HY]; · iexact HY
    iexact HW
  iintro ⟨O1, HY, HW⟩
  iapply (wp_drain x y c 258 (by decide) _ _ (k0_off31_eq 2) _ _) $$ [O2 HY HW]
  · isplitl [O2]; · iexact O2
    isplitl [HY]; · iexact HY
    iexact HW
  iintro ⟨O2, HY, HW⟩
  iapply (wp_done c ⟨⟩)
  isplitl [O0]; · iexact O0
  isplitl [O1]; · iexact O1
  isplitl [O2]; · iexact O2
  isplitl [HY]; · iexact HY
  iexact HW

/-! ## The body -/

/-- THE BODY: the input array is untouched, the output array ends at `outArr x`, every slot is free again. -/
theorem body_spec (x : XArr F) (y : YArr F) (c : Dev nD) :
    iprop(Slots c ∗ ptX c Finset.univ x ∗ ptY c Finset.univ y ∗ Owes c)
      ⊢ wp frame (wpE (defs₀ (F := F)) Variants.none (c : Thread nD τ) none) Set.univ (cc0__body mX (Memref.isWhole_whole _) mY (Memref.isWhole_whole _) mB (Memref.isWhole_whole _) mO (Memref.isWhole_whole _)
          cc0_scratch2 cc0_scratch3)
        (fun _ => iprop(Slots c ∗ ptX c Finset.univ x ∗ ptY c Finset.univ (outArr x) ∗ Owes c)) := by
  rw [cc0__body_eq_skeleton]
  unfold cc0__body_skel Slots
  simp only [wp_bind]
  iintro ⟨⟨⟨H0, H1, H2, H3⟩, O0, O1, O2, O3⟩, HX, HY, HW⟩
  ihave HX := (show ptX c Finset.univ x ⊢ iprop(ptX c (XBelow 0) x ∗ ptX c (XFrom 0) x) by
    rw [XBelow_zero, XFrom_zero]; unfold ptX
    exact (Entails.of_eq (by rw [Finset.empty_union])).trans (pointsTo_union (Finset.disjoint_empty_left _)).1) $$ HX
  icases HX with ⟨HX, HF⟩
  ihave HY := (show ptY c Finset.univ y ⊢ iprop(ptY c (YBelow 0) (outArr x) ∗ ptY c (YFrom 0) y) by
    rw [YBelow_zero, YFrom_zero]; unfold ptY
    exact (Entails.of_eq (by rw [Finset.empty_union])).trans ((pointsTo_union (Finset.disjoint_empty_left _)).1.trans
      (sep_mono_l (Entails.of_eq (pointsTo_congr fun i hi => absurd hi (Finset.notMem_empty i)))))) $$ HY
  icases HY with ⟨HY, HR⟩
  ihave HP := (part6_spec x c) $$ [H0 HF]
  · isplitl [H0]; · iexact H0
    iexact HF
  iapply (wp_wand frame (wpE (defs₀ (F := F)) Variants.none (c : Thread nD τ) none) Set.univ) $$ HP
  iintro %_ ⟨H0, HF⟩
  ihave HP := (part7_spec x c) $$ [H1 HF]
  · isplitl [H1]; · iexact H1
    iexact HF
  iapply (wp_wand frame (wpE (defs₀ (F := F)) Variants.none (c : Thread nD τ) none) Set.univ) $$ HP
  iintro %_ ⟨H1, HF⟩
  ihave HP := (part8_spec x y c) $$ [H0 H1 H2 H3 O0 O1 O2 O3 HX HF HY HR HW]
  · isplitl [H0]; · iexact H0
    isplitl [H1]; · iexact H1
    isplitl [H2]; · iexact H2
    isplitl [H3]; · iexact H3
    isplitl [O0]; · iapply (Entails.of_eq (outSt_first x y c 0 (by decide)).symm) $$ O0
    isplitl [O1]; · iapply (Entails.of_eq (outSt_first x y c 1 (by decide)).symm) $$ O1
    isplitl [O2]; · iapply (Entails.of_eq (outSt_first x y c 2 (by decide)).symm) $$ O2
    isplitl [O3]; · iapply (Entails.of_eq (outSt_first x y c 3 (by decide)).symm) $$ O3
    isplitl [HX]; · iexact HX
    isplitl [HF]; · iexact HF
    isplitl [HY]; · iexact HY
    isplitl [HR]; · iexact HR
    iexact HW
  iapply (wp_wand frame (wpE (defs₀ (F := F)) Variants.none (c : Thread nD τ) none) Set.univ) $$ HP
  iintro %_ HI
  unfold Inv
  icases HI with ⟨H0, H1, H2, H3, O0, O1, O2, O3, HX, -, HY, -, HW⟩
  ihave HP := (part9_spec x y c) $$ [O0 O1 O2 HY HW]
  · isplitl [O0]; · iexact O0
    isplitl [O1]; · iexact O1
    isplitl [O2]; · iexact O2
    isplitl [HY]; · iexact HY
    iexact HW
  iapply (wp_wand frame (wpE (defs₀ (F := F)) Variants.none (c : Thread nD τ) none) Set.univ) $$ HP
  iintro %_ ⟨O0, O1, O2, HY, HW⟩
  iapply (wp_drain x y c 259 (by decide) _ _ (k0_off31_eq 3) _ _) $$ [O3 HY HW]
  · isplitl [O3]; · iexact O3
    isplitl [HY]; · iexact HY
    iexact HW
  iintro ⟨O3, HY, HW⟩
  iapply (wp_done c ⟨⟩)
  isplitl [H0 H1 H2 H3 O0 O1 O2 O3]
  · isplitl [H0 H1 H2 H3]
    · isplitl [H0]; · iapply (Entails.of_eq ((inSt_last x c 256 (by decide)).trans (inIdle_congr c 256 0 rfl))) $$ H0
      isplitl [H1]; · iapply (Entails.of_eq ((inSt_last x c 257 (by decide)).trans (inIdle_congr c 257 1 rfl))) $$ H1
      isplitl [H2]; · iapply (Entails.of_eq ((inSt_last x c 258 (by decide)).trans (inIdle_congr c 258 2 rfl))) $$ H2
      iapply (Entails.of_eq (inIdle_congr c 259 3 rfl)) $$ H3
    isplitl [O0]; · iapply (Entails.of_eq (outIdle_congr c 256 0 rfl)) $$ O0
    isplitl [O1]; · iapply (Entails.of_eq (outIdle_congr c 257 1 rfl)) $$ O1
    isplitl [O2]; · iapply (Entails.of_eq (outIdle_congr c 258 2 rfl)) $$ O2
    iapply (Entails.of_eq (outIdle_congr c 259 3 rfl)) $$ O3
  isplitl [HX]; · iapply (Entails.of_eq (show ptX c (XBelow 256) x = ptX c Finset.univ x by rw [XBelow_all])) $$ HX
  isplitl [HY]; · iapply (Entails.of_eq (show ptY c (YBelow 256) (outArr x) = ptY c Finset.univ (outArr x) by rw [YBelow_all])) $$ HY
  iexact HW

end Cert.Unshuffle

end
-- ==== Proof.Run.lean ====
/-
  The whole program around its one kernel call: the input reshaped, the kernel, the output reshaped. The run ends with the
  argument unchanged, every semaphore at zero, and the result at `kernelOut` of the argument.
-/
module

public import proofs.«01_k».proof.Proof.Body
public import proofs.«01_k».proof.Proof.Gen.KernelIdeal.Frame
public import Idealize.ShloMosaic.Lib.Pipeline.FrameSuffixV

@[expose] public section

noncomputable section

namespace Cert.Unshuffle

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

/-- The result as a function of the argument: reshape, rearrange, reshape. -/
def kernelOut (x : S32x1x2048x2048.Idx → Elt F .f32) : S32x4x1024x1024.Idx → Elt F .f32 :=
  shapeCast S32x4x1024x1024 (outArr (shapeCast S65536x16x128 x shapeCasts_S32x1x2048x2048_S65536x16x128))
    shapeCasts_S32x4x1024x8x128_S32x4x1024x1024

variable (m : (ℓ : Loc nD τ sig) → Buf (Elt F) ℓ) (ρ : Dev nD → PrngReg)

/-- The kernel's input array when it is called. -/
abbrev xIn (c : Dev nD) : XArr F := V m c main_v0
/-- What the buffers hold when the kernel returns: the output array rearranged, the others as before. -/
def G (c : Dev nD) : (b : Ref sig .tc) → Buf (Elt F) ((c : Thread nD τ).loc b) :=
  Function.update (V m c) main_v1 (outArr (xIn m c))

theorem G_out (c : Dev nD) : G m c main_v1 = outArr (xIn m c) := Function.update_self _ _ _

/-! ## What the kernel takes and gives back -/

/-- The kernel's semaphores: all eight. -/
abbrev osem0 : Fin 8 → SemLoc sig := fun j => SemLoc.dma (show DmaSem sig from j)
theorem ownSemFacts0 : Pipeline.OwnSemFacts cfg0.spec osem0 := by decide
theorem ownSems0_zeros (c : Dev nD) :
    (Pipeline.ownSems0 (Ix := Unit) (Name := ℕ) (U := Pipeline.UD sig nD τ) (Lvl := ℕ) (Val := Elt F) (τ := τ) osem0 c : sProp 𝕄) = Zeros c := by
  rw [Pipeline.ownSems0_eq_of_list c osem0 [0, 1, 2, 3, 4, 5, 6, 7] (by decide) (by decide)]
  rfl

/-- The array read, and the array written. -/
def H0 : Finset (Ref sig .tc) := {main_v0}
def R0 : Finset (Ref sig .tc) := {main_v1}
theorem H0_sub : H0 ⊆ Pipeline.restRefs sig cfg0.spec := by decide
theorem R0_sub : R0 ⊆ Pipeline.restRefs sig cfg0.spec \ H0 := by decide

/-- The scratches and semaphores, the input array, and the output array at `y`. -/
def Held (c : Dev nD) (y : YArr F) : sProp 𝕄 :=
  iprop(Scratch c ∗ Zeros c ∗ ptX c Finset.univ (xIn m c) ∗ ptY c Finset.univ y)

theorem held_eq (c : Dev nD) (g : (c : Dev nD) → (b : Ref sig .tc) → Buf (Elt F) ((c : Thread nD τ).loc b)) :
    (Pipeline.ΦDRV osem0 cfg0.spec H0 R0 (V m) g c : sProp 𝕄) = Held m c (g c main_v1) := by
  unfold Pipeline.ΦDRV Held
  rw [scopedRest0_eq, ownSems0_zeros,
    BI.bigSep_eq_bigSepL_of_eq (S := H0) [main_v0] (by decide) (by decide),
    BI.bigSep_eq_bigSepL_of_eq (S := R0) [main_v1] (by decide) (by decide)]
  rfl

/-! ## The one call -/

def dats (_ : Fin 1) (c : Dev nD) : Dat τ (Elt F) Unit ℕ (Pipeline.UD sig nD τ) ℕ cfg0 c where
  A w := w.elim0
  after w _ := w.elim0
  Φ t := if t.val = 0 then Held m c (V m c main_v1) else Held m c (outArr (xIn m c))
  q _ := fullShare
  owed _ := 0

theorem Φ_start (c : Dev nD) (t : Fin (cfg0.N + 1)) (h : t.val = 0) : (dats m 0 c).Φ t = Held m c (V m c main_v1) := by
  dsimp only [dats]; rw [if_pos h]
theorem Φ_end (c : Dev nD) (t : Fin (cfg0.N + 1)) (h : ¬ t.val = 0) : (dats m 0 c).Φ t = Held m c (outArr (xIn m c)) := by
  dsimp only [dats]; rw [if_neg h]

/-- The body on what it is called with. -/
theorem sound_body (c : Dev nD) (t : Fin cfg0.N) :
    iprop((dats m 0 c).Φ t.castSucc ∗ (dats m 0 c).owesAt () t.castSucc)
      ⊢ wp frame (wpE (defs₀ (F := F)) Variants.none (c : Thread nD τ) none) Set.univ (bodyAt0 t)
        (fun _ => iprop((dats m 0 c).Φ t.succ ∗ (dats m 0 c).owesAt () t.succ)) := by
  obtain rfl := fin_N0 t
  rw [Φ_start m c t0_0.castSucc rfl, Φ_end m c t0_0.succ (Nat.succ_ne_zero _)]
  unfold Dat.owesAt Pipeline.owesWithin Held
  rw [show (dats m 0 c).owed t0_0.castSucc = 0 from rfl, show (dats m 0 c).owed t0_0.succ = 0 from rfl]
  iintro ⟨⟨HS, HZ, HX, HY⟩, ⟨%W, -, HW⟩⟩
  ihave HS := (slots_split c) $$ [HS HZ]
  · isplitl [HS]; · iexact HS
    iexact HZ
  ihave HP := (body_spec (xIn m c) (V m c main_v1) c) $$ [HS HX HY HW]
  · isplitl [HS]; · iexact HS
    isplitl [HX]; · iexact HX
    isplitl [HY]; · iexact HY
    unfold Owes
    iexists W
    iexact HW
  iapply (wp_wand frame (wpE (defs₀ (F := F)) Variants.none (c : Thread nD τ) none) Set.univ) $$ HP
  iintro %_ ⟨HS, HX, HY, HW⟩
  icases (slots_join c) $$ HS with ⟨HS, HZ⟩
  unfold Owes
  icases HW with ⟨%W', HW⟩
  isplitl [HS HZ HX HY]
  · isplitl [HS]; · iexact HS
    isplitl [HZ]; · iexact HZ
    isplitl [HX]; · iexact HX
    iexact HY
  iexists W'
  isplitr
  · ipureintro
    exact fun _ _ => Or.inl trivial
  iexact HW

theorem defs₀_row (t : Fin cfg0.N) : defs₀ (F := F) .tc cfg0.body (cfg0.bodyArgs t (cfg0.slots t)) = bodyAt0 t := by
  unfold defs₀; rw [Defs.onTc_tc]

/-- There is no window. -/
theorem no_windows (Ψ : Fin cfg0.W → sProp 𝕄) : bigSep Finset.univ Ψ = iprop(emp) := rfl

theorem body_obligation (c : Dev nD) : BodyObligation (dats (F := F) m 0 c) (defs₀ (F := F)) Variants.none () Set.univ := fun t => by
  rw [no_windows, no_windows, defs₀_row]
  refine triple_restated (sound_body m c t) rfl ?_ fun _ => ?_
  · iintro ⟨H, HW, -⟩
    isplitl [H]; · iexact H
    iexact HW
  · iintro ⟨H, HW⟩
    isplitl [H]; · iexact H
    isplitl [HW]; · iexact HW
    iempintro

/-! ## The program around it -/

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the buffers hold when the kernel returns, the reshape after it still to come. -/
abbrev afterCall (c : Dev nD) : Valuation τ sig (Elt F) :=
  Pipeline.withArrays cfg0.spec c (Pipeline.withR (V0 m c) R0 c (G m c)) fun w => (dats m 0 c).arrAt w cfg0.N

theorem xIn_eq (c : Dev nD) :
    xIn m c = shapeCast S65536x16x128 (m ((c : Thread nD τ).loc main_arg0)) shapeCasts_S32x1x2048x2048_S65536x16x128 := by
  unfold xIn V V0
  simp only [hostOps0, List.flatten_cons, List.flatten_nil, List.append_nil, StableHlo.after_cons, StableHlo.after_nil]
  rw [StableHlo.reshape_result]
  rfl

theorem end_arg (c : Dev nD) :
    StableHlo.after [hostOps1].flatten (afterCall m c) (Proc.devRef .tc main_arg0) = m ((c : Thread nD τ).loc main_arg0) := by
  unfold afterCall
  rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c _ _ main_arg0 (fun w => w.elim0), Pipeline.withR_of_not_mem _ _ _ _ main_arg0 (by decide)]
  exact V_main_arg0 m c

theorem end_out (c : Dev nD) :
    StableHlo.after [hostOps1].flatten (afterCall m c) (Proc.devRef .tc main_v2) = kernelOut (m ((c : Thread nD τ).loc main_arg0)) := by
  unfold afterCall
  simp only [hostOps1, List.flatten_cons, List.flatten_nil, List.append_nil, StableHlo.after_cons, StableHlo.after_nil]
  rw [StableHlo.reshape_result, Pipeline.withArrays_of_ne _ c _ _ main_v1 (fun w => w.elim0),
    Pipeline.withR_of_mem _ _ _ _ main_v1 (by decide), G_out, xIn_eq]
  rfl

set_option backward.isDefEq.respectTransparency.types false in
/-- THE RUN: the argument is unchanged, the result is `kernelOut` of it, every semaphore ends at zero. -/
theorem run_main : θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_v2) = kernelOut (m ((c.tc : Thread nD τ).loc main_arg0)))
      ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps) (G := G m) (hmain := hmain m Variants.none)
    (hA := fun _ w => w.elim0)
    (hin := fun c => Entails.of_eq ((held_eq m c (V m)).trans (Φ_start m c 0 rfl).symm))
    (hout := fun c => Entails.of_eq ((Φ_end m c (Fin.last cfg0.N) (by decide)).trans (by rw [← G_out]; exact (held_eq m c (G m)).symm)))
    (Q' := _)
    (hQ' := fun r h => ⟨fun c =>
      ⟨((h.1 c).2 main_arg0 (Pipeline.mem_restRefs_of main_arg0 (by decide) (by decide))).trans (end_arg m c),
        ((h.1 c).2 main_v2 (Pipeline.mem_restRefs_of main_v2 (by decide) (by decide))).trans (end_out m c)⟩, h.2⟩)

end Cert.Unshuffle

end
-- ==== Proof.Frames.lean ====
module

public import proofs.«01_k».proof.Defs
public import proofs.«01_k».proof.Proof.Run
public import proofs.«01_k».proof.Proof.Gen.Kernel

/-! # The kernel at bit patterns

The program printed for bit patterns and the one printed for exact values have the same text, so the
run proved for every reading of the floats also holds of the first. -/

@[expose] public section

noncomputable section

namespace Cert.Unshuffle

open Idealize.ShloMosaic Idealize.ShloMosaic.TcCoe
open Idealize.SL.Sem

variable {F : FTy → Type} [FloatOps F]

/-- The two printed programs have the same definitions. -/
theorem defs_eq : Cert.Kernel.defs (F := F) = Cert.KernelIdeal.defs (F := F) := rfl

/-- The two printed programs have the same entry. -/
theorem main_eq : Cert.Kernel.main (F := F) = Cert.KernelIdeal.main (F := F) := rfl

/-- FRAME, bit patterns: every run ends with the input as it was and all semaphores zero. -/
theorem frame_bits : Cert.quiescent_Kernel (hKernel := Cert.Kernel.Gen.facts) := fun m g _ =>
  (θ_run (Cert.KernelIdeal.defs (F := Bits)) _ _).mono (fun _ h => ⟨fun c => (h.1 c).1, h.2⟩)
    (run_main (F := Bits) m g)

/-- FRAME, exact values: every run ends with the input as it was and all semaphores zero. -/
theorem frame_ideal : Cert.quiescent_KernelIdeal (hKernelIdeal := Cert.KernelIdeal.Gen.facts) := fun m g _ =>
  (θ_run (Cert.KernelIdeal.defs (F := Ideal)) _ _).mono (fun _ h => ⟨fun c => (h.1 c).1, h.2⟩)
    (run_main (F := Ideal) m g)

end Cert.Unshuffle

end
-- ==== Proof.Reference.lean ====
/-
  What the reference computes: the four strided slices of the argument laid one after another along the channel axis, read
  at an index; and the reference's run, with its semaphores, of which it has none.
-/
module

public import proofs.«01_k».proof.Defs
public import proofs.«01_k».proof.Proof.Gen.ReferenceIdeal.Run
public import Idealize.ShloMosaic.Lib.Pipeline.Value

@[expose] public section

noncomputable section

namespace Cert.Unshuffle.Reference

open Cert.ReferenceIdeal Cert.ReferenceIdeal.Gen
open Idealize.ShloMosaic Idealize.ShloMosaic.TcCoe Idealize.SL.Sem

section Value

variable {α : Type}

/-- The input element under output channel `c`, row `h` and column `w` of image `b`: row `2 h + c / 2`, column
    `2 w + c % 2` of the same image. -/
def srcPix (b : Fin 32) (c : Fin 4) (h w : Fin 1024) : S32x1x2048x2048.Idx
  | ⟨0, _⟩ => b
  | ⟨1, _⟩ => (0 : Fin 1)
  | ⟨2, _⟩ => (⟨2 * h.val + c.val / 2, by omega⟩ : Fin 2048)
  | ⟨3, _⟩ => (⟨2 * w.val + c.val % 2, by omega⟩ : Fin 2048)

/-- The pixel-unshuffle as a function of the input. -/
def unshuffled (x : S32x1x2048x2048.Idx → α) : S32x4x1024x1024.Idx → α :=
  fun j => x (srcPix (j 0) (j 1) (j 2) (j 3))

/-- The slice taken at row offset `r` and column offset `s`, both strides two. -/
abbrev sliceAt (r s : ℕ) (x : S32x1x2048x2048.Idx → α)
    (h : S32x1x2048x2048.SlicesBy (![0, 0, r, s] : Fin 4 → ℕ) ![1, 1, 2, 2] S32x1x1024x1024) : S32x1x1024x1024.Idx → α :=
  Host.slice S32x1x1024x1024 ![0, 0, r, s] ![1, 1, 2, 2] x h

/-- An index of one slice. -/
def pixAt (b : Fin 32) (h w : Fin 1024) : S32x1x1024x1024.Idx
  | ⟨0, _⟩ => b
  | ⟨1, _⟩ => (0 : Fin 1)
  | ⟨2, _⟩ => h
  | ⟨3, _⟩ => w

/-- A slice at an index is the input at the source of channel `c = 2 r + s`. -/
theorem sliceAt_apply (r s : ℕ) (x : S32x1x2048x2048.Idx → α)
    (hs : S32x1x2048x2048.SlicesBy (![0, 0, r, s] : Fin 4 → ℕ) ![1, 1, 2, 2] S32x1x1024x1024)
    (b : Fin 32) (c : Fin 4) (h w : Fin 1024) (hr : c.val / 2 = r) (hc : c.val % 2 = s) :
    sliceAt r s x hs (pixAt b h w) = x (srcPix b c h w) := by
  unfold sliceAt Host.slice
  congr 1
  funext a
  apply Fin.ext
  fin_cases a
  · show 0 + 1 * b.val = b.val; omega
  · rfl
  · show r + 2 * h.val = 2 * h.val + c.val / 2; omega
  · show s + 2 * w.val = 2 * w.val + c.val % 2; omega

/-- The four slices, in the order of their channels. -/
abbrev slices (x : S32x1x2048x2048.Idx → α) : List ((s : Shape) × (s.Idx → α)) :=
  [⟨S32x1x1024x1024, sliceAt 0 0 x slicesBy_S32x1x2048x2048_S32x1x1024x1024_0s1_0s1_0s2_0s2⟩,
   ⟨S32x1x1024x1024, sliceAt 0 1 x slicesBy_S32x1x2048x2048_S32x1x1024x1024_0s1_0s1_0s2_1s2⟩,
   ⟨S32x1x1024x1024, sliceAt 1 0 x slicesBy_S32x1x2048x2048_S32x1x1024x1024_0s1_0s1_1s2_0s2⟩,
   ⟨S32x1x1024x1024, sliceAt 1 1 x slicesBy_S32x1x2048x2048_S32x1x1024x1024_0s1_0s1_1s2_1s2⟩]

/-- The four slices concatenated along the channels are the pixel-unshuffle. -/
theorem concat_eq (x : S32x1x2048x2048.Idx → α) :
    concatenate S32x4x1024x1024 1 (slices x)
      concatenates_S32x1x1024x1024_S32x1x1024x1024_S32x1x1024x1024_S32x1x1024x1024_S32x4x1024x1024_d1
      = unshuffled x := by
  funext j
  have hi : ∀ a : Fin 4, a ≠ 1 → (pixAt (j 0) (j 2) (j 3) a).val = (j a).val := by
    intro a ha
    fin_cases a
    · rfl
    · exact absurd rfl ha
    · rfl
    · rfl
  obtain ⟨c, hc⟩ : ∃ c : Fin 4, j 1 = c := ⟨_, rfl⟩
  have piece := fun (k : ℕ) hk (x₁ : S32x1x1024x1024.Idx → α) hx pre hpre (ha : pre + 0 = c.val) =>
    concatenate_apply_piece (1 : Fin S32x4x1024x1024.rank) (slices x)
      concatenates_S32x1x1024x1024_S32x1x1024x1024_S32x1x1024x1024_S32x1x1024x1024_S32x4x1024x1024_d1
      j k hk S32x1x1024x1024 x₁ hx rfl pre hpre (pixAt (j 0) (j 2) (j 3)) hi (ha.trans (congrArg Fin.val hc.symm))
  show _ = x (srcPix (j 0) (j 1) (j 2) (j 3))
  rw [hc]
  fin_cases c
  · exact (piece 0 (by simp) _ rfl 0 rfl rfl).trans (sliceAt_apply 0 0 x _ _ 0 _ _ rfl rfl)
  · exact (piece 1 (by simp) _ rfl 1 rfl rfl).trans (sliceAt_apply 0 1 x _ _ 1 _ _ rfl rfl)
  · exact (piece 2 (by simp) _ rfl 2 rfl rfl).trans (sliceAt_apply 1 0 x _ _ 2 _ _ rfl rfl)
  · exact (piece 3 (by simp) _ rfl 3 rfl rfl).trans (sliceAt_apply 1 1 x _ _ 3 _ _ rfl rfl)

end Value

variable {F : FTy → Type} [FloatOps F]

/-- The reference has no semaphore, so any two readings of its semaphores agree. -/
theorem no_sem (s : SemLoc sig) : False := by
  rcases s with s | s <;> exact absurd s.isLt (Nat.not_lt_zero _)

/-- THE REFERENCE'S RUN: the result is the pixel-unshuffle of the argument, the argument is unchanged. -/
theorem run_reference (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v4) = unshuffled (m ((c.tc : Thread nD τ).loc main_arg0))
      ∧ r.2.mem ((c.tc : Thread nD τ).loc main_arg0) = m ((c.tc : Thread nD τ).loc main_arg0)) :=
  (θ_run defs _ _).mono (fun _ h c => ⟨(h c).1.trans (concat_eq _), (h c).2⟩) (Value.run m ρ)

/-- FRAME, the reference: every run ends with the argument as it was and every semaphore at zero. -/
theorem frame_reference : Cert.quiescent_ReferenceIdeal (hReferenceIdeal := Cert.ReferenceIdeal.Gen.facts) :=
  fun m g _ => (θ_run (Cert.ReferenceIdeal.defs (F := Ideal)) _ _).mono
    (fun _ h => ⟨fun c => (h c).2, funext fun s => (no_sem s.2).elim⟩) (run_reference (F := Ideal) m g)

end Cert.Unshuffle.Reference

end
-- ==== Proof.Equation.lean ====
/-
  The equation: the kernel's result, which is the rearranged array between two reshapes, is the pixel-unshuffle the
  reference computes.
-/
module

public import proofs.«01_k».proof.Proof.Run
public import proofs.«01_k».proof.Proof.Reference

@[expose] public section

noncomputable section

namespace Cert.Unshuffle

open Cert.KernelIdeal Cert.KernelIdeal.Gen
open Idealize.ShloMosaic Idealize.SL.Sem

variable {F : FTy → Type} [FloatOps F]

/-- The index of the kernel's output array under output channel `c`, row `h` and column `w` of image `b`: the column is
    split into a group of 128 lanes and a lane. -/
def outAt (b : Fin 32) (c : Fin 4) (h w : Fin 1024) : S32x4x1024x8x128.Idx
  | ⟨0, _⟩ => b
  | ⟨1, _⟩ => c
  | ⟨2, _⟩ => h
  | ⟨3, _⟩ => (⟨w.val / 128, by omega⟩ : Fin 8)
  | ⟨4, _⟩ => (⟨w.val % 128, by omega⟩ : Fin 128)

/-- The last reshape: element `(b, c, h, w)` of the result is the output array's element `(b, c, h, w / 128, w % 128)`. -/
theorem reshape_out (j : S32x4x1024x1024.Idx) (h : S32x4x1024x8x128.ShapeCasts S32x4x1024x1024) :
    Shape.reshapeEquiv h j = outAt (j 0) (j 1) (j 2) (j 3) :=
  Shape.reshapeEquiv_eq_of_rowMajor h (by
    rw [Shape.rowMajor_val_five, Shape.rowMajor_val_four]
    obtain ⟨b, hb⟩ : ∃ b : Fin 32, j 0 = b := ⟨_, rfl⟩
    obtain ⟨c, hc⟩ : ∃ c : Fin 4, j 1 = c := ⟨_, rfl⟩
    obtain ⟨r, hr⟩ : ∃ r : Fin 1024, j 2 = r := ⟨_, rfl⟩
    obtain ⟨w, hw⟩ : ∃ w : Fin 1024, j 3 = w := ⟨_, rfl⟩
    rw [hb, hc, hr, hw]
    show (((b.val * 4 + c.val) * 1024 + r.val) * 8 + w.val / 128) * 128 + w.val % 128
      = ((b.val * 4 + c.val) * 1024 + r.val) * 1024 + w.val
    omega)

/-- The first reshape: the element of the kernel's input array that an output element comes from is the source pixel of
    the input image. -/
theorem reshape_in (b : Fin 32) (c : Fin 4) (r w : Fin 1024) (h : S32x1x2048x2048.ShapeCasts S65536x16x128) :
    Shape.reshapeEquiv h (srcAt b.val r.val c.val (w.val / 128) (w.val % 128)) = Reference.srcPix b c r w :=
  Shape.reshapeEquiv_eq_of_rowMajor h (by
    rw [Shape.rowMajor_val_four, Shape.rowMajor_val_three]
    show ((b.val * 1 + 0) * 2048 + (2 * r.val + c.val / 2)) * 2048 + (2 * w.val + c.val % 2)
      = ((2048 * b.val + 2 * r.val + c.val / 2) % 65536 * 16
          + (2 * (128 * (w.val / 128) + w.val % 128) + c.val % 2) / 128 % 16) * 128
        + (2 * (128 * (w.val / 128) + w.val % 128) + c.val % 2) % 128
    rw [Nat.div_add_mod, Nat.mod_eq_of_lt (by omega : 2048 * b.val + 2 * r.val + c.val / 2 < 65536)]
    omega)

/-- THE EQUATION: the kernel's result is the reference's, element by element. -/
theorem kernelOut_eq (x : S32x1x2048x2048.Idx → Elt F .f32) : kernelOut x = Reference.unshuffled x := by
  funext j
  unfold kernelOut shapeCast
  rw [reshape_out]
  exact congrArg x (reshape_in (j 0) (j 1) (j 2) (j 3) _)

/-- ALGEBRAIC: on exact values the kernel and the reference, run on the same input, end with the same result. -/
theorem algebraic : Cert.algebraic_KernelIdeal_ReferenceIdeal (hKernelIdeal := Cert.KernelIdeal.Gen.facts)
    (hReferenceIdeal := Cert.ReferenceIdeal.Gen.facts) := fun m g m' g' _ hx =>
  ⟨fun c => Reference.unshuffled (m ((c.tc : Thread nD τ).loc main_arg0)),
    (θ_run (Cert.KernelIdeal.defs (F := Ideal)) _ _).mono
      (fun _ h c => ⟨((h.1 c).2).trans (kernelOut_eq (F := Ideal) _), (h.1 c).1⟩) (run_main (F := Ideal) m g),
    (θ_run (Cert.ReferenceIdeal.defs (F := Ideal)) _ _).mono
      (fun _ h c => ⟨(h c).1.trans (congrArg Reference.unshuffled (hx c)), (h c).2⟩)
      (Reference.run_reference (F := Ideal) m' g')⟩

end Cert.Unshuffle

end
-- ==== Proof.lean ====
module

public import proofs.«01_k».proof.Defs
public import proofs.«01_k».proof.Proof.Frames
public import proofs.«01_k».proof.Proof.Equation

@[expose] public section

noncomputable section

namespace Cert.Proof

/-- The claim: both kernels and the reference leave their argument alone and end quiescent, the two kernel texts are the
    same program, and on exact values the kernel's result is the reference's. -/
theorem claim : Cert.Claim := ⟨Cert.Kernel.Gen.facts, Cert.KernelIdeal.Gen.facts, Cert.ReferenceIdeal.Gen.facts,
  Cert.Unshuffle.frame_bits, Cert.Unshuffle.frame_ideal, Cert.Unshuffle.Reference.frame_reference, trivial,
  Cert.Unshuffle.algebraic⟩

end Cert.Proof

end
